-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v24)) (v5 : (c : Dev Cert.KernelIdeal.nD) → Buf (Elt Ideal) ((c.tc : Thread Cert.KernelIdeal.nD Cert.KernelIdeal.τ).loc Cert.KernelIdeal.main_v25)) (v6 : (c : Dev Cert.KernelIdeal.nD) → Buf (Elt Ideal) ((c.tc : Thread Cert.KernelIdeal.nD Cert.KernelIdeal.τ).loc Cert.KernelIdeal.main_v26)) (v7 : (c : Dev Cert.KernelIdeal.nD) → Buf (Elt Ideal) ((c.tc : Thread Cert.KernelIdeal.nD Cert.KernelIdeal.τ).loc Cert.KernelIdeal.main_v27)) (v8 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_v25) = v5 c
          ∧ r.2.mem ((c.tc : Thread Cert.KernelIdeal.nD Cert.KernelIdeal.τ).loc Cert.KernelIdeal.main_v26) = v6 c
          ∧ r.2.mem ((c.tc : Thread Cert.KernelIdeal.nD Cert.KernelIdeal.τ).loc Cert.KernelIdeal.main_v27) = v7 c
          ∧ r.2.mem ((c.tc : Thread Cert.KernelIdeal.nD Cert.KernelIdeal.τ).loc Cert.KernelIdeal.main_v28) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1536x3072 : Shape := ⟨3, ![4, 1536, 3072]⟩
abbrev S4x1536 : Shape := ⟨2, ![4, 1536]⟩
abbrev S3072 : Shape := ⟨1, ![3072]⟩
abbrev S3072x4608 : Shape := ⟨2, ![3072, 4608]⟩
abbrev S4608 : Shape := ⟨1, ![4608]⟩
abbrev S1536x3072 : Shape := ⟨2, ![1536, 3072]⟩
abbrev S3072x4096 : Shape := ⟨2, ![3072, 4096]⟩
abbrev S4096 : Shape := ⟨1, ![4096]⟩
abbrev S4096x3072 : Shape := ⟨2, ![4096, 3072]⟩
abbrev S6144x3072 : Shape := ⟨2, ![6144, 3072]⟩
abbrev S1x3072 : Shape := ⟨2, ![1, 3072]⟩
abbrev S1x4608 : Shape := ⟨2, ![1, 4608]⟩
abbrev S6144x4608 : Shape := ⟨2, ![6144, 4608]⟩
abbrev S6144x1 : Shape := ⟨2, ![6144, 1]⟩
abbrev S512x3072 : Shape := ⟨2, ![512, 3072]⟩
abbrev S512x4608 : Shape := ⟨2, ![512, 4608]⟩
abbrev S512x1 : Shape := ⟨2, ![512, 1]⟩
abbrev S512 : Shape := ⟨1, ![512]⟩
abbrev S1x253 : Shape := ⟨2, ![1, 253]⟩
abbrev S512x253 : Shape := ⟨2, ![512, 253]⟩
abbrev S4x1536x4608 : Shape := ⟨3, ![4, 1536, 4608]⟩
abbrev S4x1536x1 : Shape := ⟨3, ![4, 1536, 1]⟩
abbrev S4x1x1536 : Shape := ⟨3, ![4, 1, 1536]⟩
abbrev S4x1536x1536 : Shape := ⟨3, ![4, 1536, 1536]⟩
abbrev S1x1536x384 : Shape := ⟨3, ![1, 1536, 384]⟩
abbrev S1x1536x1 : Shape := ⟨3, ![1, 1536, 1]⟩
abbrev S1x1x1536 : Shape := ⟨3, ![1, 1, 1536]⟩
abbrev S1x1536 : Shape := ⟨2, ![1, 1536]⟩
abbrev S1x1536x96 : Shape := ⟨3, ![1, 1536, 96]⟩
abbrev S1536x96 : Shape := ⟨2, ![1536, 96]⟩
abbrev S1x256x96 : Shape := ⟨3, ![1, 256, 96]⟩
abbrev S256x96 : Shape := ⟨2, ![256, 96]⟩
abbrev S256x1536 : Shape := ⟨2, ![256, 1536]⟩
abbrev S1x256x1 : Shape := ⟨3, ![1, 256, 1]⟩
abbrev S256x1 : Shape := ⟨2, ![256, 1]⟩
abbrev S256 : Shape := ⟨1, ![256]⟩
abbrev S6144x1536 : Shape := ⟨2, ![6144, 1536]⟩
abbrev S1x4096 : Shape := ⟨2, ![1, 4096]⟩
abbrev S6144x4096 : Shape := ⟨2, ![6144, 4096]⟩
abbrev S256x3072 : Shape := ⟨2, ![256, 3072]⟩
abbrev S256x4096 : Shape := ⟨2, ![256, 4096]⟩
abbrev S256x253 : Shape := ⟨2, ![256, 253]⟩
abbrev S4x1536x4096 : Shape := ⟨3, ![4, 1536, 4096]⟩

abbrev nBuf : Space → Nat
  | .hbm => 55
  | .vmem => 54
  | .smem => 0
  | _ => 0

abbrev bufTy : (tb : Table) → Fin (tcTables nBuf tb) → BufTy
  | .hbm, ⟨0, _⟩ => ⟨S4x1536x3072, .bf16⟩
  | .hbm, ⟨1, _⟩ => ⟨S4x1536, .i32⟩
  | .hbm, ⟨2, _⟩ => ⟨S3072, .f32⟩
  | .hbm, ⟨3, _⟩ => ⟨S3072, .f32⟩
  | .hbm, ⟨4, _⟩ => ⟨S3072x4608, .fp8e4m3⟩
  | .hbm, ⟨5, _⟩ => ⟨S4608, .f32⟩
  | .hbm, ⟨6, _⟩ => ⟨S4608, .f32⟩
  | .hbm, ⟨7, _⟩ => ⟨S1536x3072, .fp8e4m3⟩
  | .hbm, ⟨8, _⟩ => ⟨S3072, .f32⟩
  | .hbm, ⟨9, _⟩ => ⟨S3072, .f32⟩
  | .hbm, ⟨10, _⟩ => ⟨S3072, .f32⟩
  | .hbm, ⟨11, _⟩ => ⟨S3072, .f32⟩
  | .hbm, ⟨12, _⟩ => ⟨S3072x4096, .fp8e4m3⟩
  | .hbm, ⟨13, _⟩ => ⟨S4096, .f32⟩
  | .hbm, ⟨14, _⟩ => ⟨S4096, .f32⟩
  | .hbm, ⟨15, _⟩ => ⟨S4096x3072, .fp8e4m3⟩
  | .hbm, ⟨16, _⟩ => ⟨S3072, .f32⟩
  | .hbm, ⟨17, _⟩ => ⟨S3072, .f32⟩
  | .hbm, ⟨18, _⟩ => ⟨S6144x3072, .bf16⟩
  | .hbm, ⟨19, _⟩ => ⟨S1x3072, .f32⟩
  | .hbm, ⟨20, _⟩ => ⟨S1x3072, .f32⟩
  | .hbm, ⟨21, _⟩ => ⟨S1x4608, .f32⟩
  | .hbm, ⟨22, _⟩ => ⟨S1x4608, .f32⟩
  | .hbm, ⟨23, _⟩ => ⟨S6144x4608, .bf16⟩
  | .hbm, ⟨24, _⟩ => ⟨S6144x3072, .fp8e4m3⟩
  | .hbm, ⟨25, _⟩ => ⟨S6144x1, .f32⟩
  | .hbm, ⟨26, _⟩ => ⟨S4x1536x4608, .bf16⟩
  | .hbm, ⟨27, _⟩ => ⟨S4x1536x1, .i32⟩
  | .hbm, ⟨28, _⟩ => ⟨S4x1x1536, .i32⟩
  | .hbm, ⟨29, _⟩ => ⟨S4x1536x1536, .f32⟩
  | .hbm, ⟨30, _⟩ => ⟨S6144x1536, .f32⟩
  | .hbm, ⟨31, _⟩ => ⟨S1x3072, .f32⟩
  | .hbm, ⟨32, _⟩ => ⟨S1x3072, .f32⟩
  | .hbm, ⟨33, _⟩ => ⟨S1x3072, .f32⟩
  | .hbm, ⟨34, _⟩ => ⟨S1x3072, .f32⟩
  | .hbm, ⟨35, _⟩ => ⟨S1x4096, .f32⟩
  | .hbm, ⟨36, _⟩ => ⟨S1x4096, .f32⟩
  | .hbm, ⟨37, _⟩ => ⟨S1x3072, .f32⟩
  | .hbm, ⟨38, _⟩ => ⟨S1x3072, .f32⟩
  | .hbm, ⟨39, _⟩ => ⟨S6144x3072, .bf16⟩
  | .hbm, ⟨40, _⟩ => ⟨S6144x1536, .fp8e4m3⟩
  | .hbm, ⟨41, _⟩ => ⟨S6144x1, .f32⟩
  | .hbm, ⟨42, _⟩ => ⟨S6144x3072, .fp8e4m3⟩
  | .hbm, ⟨43, _⟩ => ⟨S6144x1, .f32⟩
  | .hbm, ⟨44, _⟩ => ⟨S6144x4096, .fp8e4m3⟩
  | .hbm, ⟨45, _⟩ => ⟨S6144x1, .f32⟩
  | .hbm, ⟨46, _⟩ => ⟨S4x1536x3072, .bf16⟩
  | .hbm, ⟨47, _⟩ => ⟨S4x1536x3072, .fp8e4m3⟩
  | .hbm, ⟨48, _⟩ => ⟨S4x1536x1, .f32⟩
  | .hbm, ⟨49, _⟩ => ⟨S4x1536x1536, .fp8e4m3⟩
  | .hbm, ⟨50, _⟩ => ⟨S4x1536x1, .f32⟩
  | .hbm, ⟨51, _⟩ => ⟨S4x1536x3072, .fp8e4m3⟩
  | .hbm, ⟨52, _⟩ => ⟨S4x1536x1, .f32⟩
  | .hbm, ⟨53, _⟩ => ⟨S4x1536x4096, .fp8e4m3⟩
  | .hbm, ⟨54, _⟩ => ⟨S4x1536x1, .f32⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S1x3072, .f32⟩
  | .local _ .vmem, ⟨4, _⟩ => ⟨S3072x4608, .fp8e4m3⟩
  | .local _ .vmem, ⟨5, _⟩ => ⟨S1x4608, .f32⟩
  | .local _ .vmem, ⟨6, _⟩ => ⟨S1x4608, .f32⟩
  | .local _ .vmem, ⟨7, _⟩ => ⟨S512x4608, .bf16⟩
  | .local _ .vmem, ⟨8, _⟩ => ⟨S512x4608, .bf16⟩
  | .local _ .vmem, ⟨9, _⟩ => ⟨S512x3072, .fp8e4m3⟩
  | .local _ .vmem, ⟨10, _⟩ => ⟨S512x3072, .fp8e4m3⟩
  | .local _ .vmem, ⟨11, _⟩ => ⟨S512x1, .f32⟩
  | .local _ .vmem, ⟨12, _⟩ => ⟨S512x1, .f32⟩
  | .local _ .vmem, ⟨13, _⟩ => ⟨S1x1536x384, .bf16⟩
  | .local _ .vmem, ⟨14, _⟩ => ⟨S1x1536x384, .bf16⟩
  | .local _ .vmem, ⟨15, _⟩ => ⟨S1x1536x384, .bf16⟩
  | .local _ .vmem, ⟨16, _⟩ => ⟨S1x1536x384, .bf16⟩
  | .local _ .vmem, ⟨17, _⟩ => ⟨S1x1536x384, .bf16⟩
  | .local _ .vmem, ⟨18, _⟩ => ⟨S1x1536x384, .bf16⟩
  | .local _ .vmem, ⟨19, _⟩ => ⟨S1x1536x1, .i32⟩
  | .local _ .vmem, ⟨20, _⟩ => ⟨S1x1536x1, .i32⟩
  | .local _ .vmem, ⟨21, _⟩ => ⟨S1x1x1536, .i32⟩
  | .local _ .vmem, ⟨22, _⟩ => ⟨S1x1x1536, .i32⟩
  | .local _ .vmem, ⟨23, _⟩ => ⟨S1x1536x384, .f32⟩
  | .local _ .vmem, ⟨24, _⟩ => ⟨S1x1536x384, .f32⟩
  | .local _ .vmem, ⟨25, _⟩ => ⟨S256x1536, .f32⟩
  | .local _ .vmem, ⟨26, _⟩ => ⟨S256x1536, .f32⟩
  | .local _ .vmem, ⟨27, _⟩ => ⟨S256x3072, .bf16⟩
  | .local _ .vmem, ⟨28, _⟩ => ⟨S256x3072, .bf16⟩
  | .local _ .vmem, ⟨29, _⟩ => ⟨S1536x3072, .fp8e4m3⟩
  | .local _ .vmem, ⟨30, _⟩ => ⟨S1x3072, .f32⟩
  | .local _ .vmem, ⟨31, _⟩ => ⟨S1x3072, .f32⟩
  | .local _ .vmem, ⟨32, _⟩ => ⟨S1x3072, .f32⟩
  | .local _ .vmem, ⟨33, _⟩ => ⟨S1x3072, .f32⟩
  | .local _ .vmem, ⟨34, _⟩ => ⟨S3072x4096, .fp8e4m3⟩
  | .local _ .vmem, ⟨35, _⟩ => ⟨S1x4096, .f32⟩
  | .local _ .vmem, ⟨36, _⟩ => ⟨S1x4096, .f32⟩
  | .local _ .vmem, ⟨37, _⟩ => ⟨S4096x3072, .fp8e4m3⟩
  | .local _ .vmem, ⟨38, _⟩ => ⟨S1x3072, .f32⟩
  | .local _ .vmem, ⟨39, _⟩ => ⟨S1x3072, .f32⟩
  | .local _ .vmem, ⟨40, _⟩ => ⟨S256x3072, .bf16⟩
  | .local _ .vmem, ⟨41, _⟩ => ⟨S256x3072, .bf16⟩
  | .local _ .vmem, ⟨42, _⟩ => ⟨S256x1536, .fp8e4m3⟩
  | .local _ .vmem, ⟨43, _⟩ => ⟨S256x1536, .fp8e4m3⟩
  | .local _ .vmem, ⟨44, _⟩ => ⟨S256x1, .f32⟩
  | .local _ .vmem, ⟨45, _⟩ => ⟨S256x1, .f32⟩
  | .local _ .vmem, ⟨46, _⟩ => ⟨S256x3072, .fp8e4m3⟩
  | .local _ .vmem, ⟨47, _⟩ => ⟨S256x3072, .fp8e4m3⟩
  | .local _ .vmem, ⟨48, _⟩ => ⟨S256x1, .f32⟩
  | .local _ .vmem, ⟨49, _⟩ => ⟨S256x1, .f32⟩
  | .local _ .vmem, ⟨50, _⟩ => ⟨S256x4096, .fp8e4m3⟩
  | .local _ .vmem, ⟨51, _⟩ => ⟨S256x4096, .fp8e4m3⟩
  | .local _ .vmem, ⟨52, _⟩ => ⟨S256x1, .f32⟩
  | .local _ .vmem, ⟨53, _⟩ => ⟨S256x1, .f32⟩
  | _, _ => ⟨S4x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_v5_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev main_v19_2 : Ref sig .tc := ⟨.hbm, 41, rfl⟩
abbrev main_v19_3 : Ref sig .tc := ⟨.hbm, 42, rfl⟩
abbrev main_v19_4 : Ref sig .tc := ⟨.hbm, 43, rfl⟩
abbrev main_v19_5 : Ref sig .tc := ⟨.hbm, 44, rfl⟩
abbrev main_v19_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg10_0 : Ref sig .tc := ⟨.vmem, 37, rfl⟩
abbrev cc2_stg11_0 : Ref sig .tc := ⟨.vmem, 38, rfl⟩
abbrev cc2_stg12_0 : Ref sig .tc := ⟨.vmem, 39, rfl⟩
abbrev cc2_stg13_0 : Ref sig .tc := ⟨.vmem, 40, rfl⟩
abbrev cc2_stg13_1 : Ref sig .tc := ⟨.vmem, 41, rfl⟩
abbrev cc2_stg14_0 : Ref sig .tc := ⟨.vmem, 42, rfl⟩
abbrev cc2_stg14_1 : Ref sig .tc := ⟨.vmem, 43, rfl⟩
abbrev cc2_stg15_0 : Ref sig .tc := ⟨.vmem, 44, rfl⟩
abbrev cc2_stg15_1 : Ref sig .tc := ⟨.vmem, 45, rfl⟩
abbrev cc2_stg16_0 : Ref sig .tc := ⟨.vmem, 46, rfl⟩
abbrev cc2_stg16_1 : Ref sig .tc := ⟨.vmem, 47, rfl⟩
abbrev cc2_stg17_0 : Ref sig .tc := ⟨.vmem, 48, rfl⟩
abbrev cc2_stg17_1 : Ref sig .tc := ⟨.vmem, 49, rfl⟩
abbrev cc2_stg18_0 : Ref sig .tc := ⟨.vmem, 50, rfl⟩
abbrev cc2_stg18_1 : Ref sig .tc := ⟨.vmem, 51, rfl⟩
abbrev cc2_stg19_0 : Ref sig .tc := ⟨.vmem, 52, rfl⟩
abbrev cc2_stg19_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem10_0 : DmaSem sig := 37
abbrev cc2_sem11_0 : DmaSem sig := 38
abbrev cc2_sem12_0 : DmaSem sig := 39
abbrev cc2_sem13_0 : DmaSem sig := 40
abbrev cc2_sem13_1 : DmaSem sig := 41
abbrev cc2_sem14_0 : DmaSem sig := 42
abbrev cc2_sem14_1 : DmaSem sig := 43
abbrev cc2_sem15_0 : DmaSem sig := 44
abbrev cc2_sem15_1 : DmaSem sig := 45
abbrev cc2_sem16_0 : DmaSem sig := 46
abbrev cc2_sem16_1 : DmaSem sig := 47
abbrev cc2_sem17_0 : DmaSem sig := 48
abbrev cc2_sem17_1 : DmaSem sig := 49
abbrev cc2_sem18_0 : DmaSem sig := 50
abbrev cc2_sem18_1 : DmaSem sig := 51
abbrev cc2_sem19_0 : DmaSem sig := 52
abbrev cc2_sem19_1 : DmaSem sig := 53

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1536x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1536x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1536x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1536x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x1536 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1536x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![24], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x3072 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1536x3072 .fp8e4m3 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x3072 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x3072 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x3072 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3072 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3072x4096 .fp8e4m3 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x4096 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x4096 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S4096x3072 .fp8e4m3 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x3072 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x3072 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S256x3072 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S256x1536 .fp8e4m3 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S256x1 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S256x3072 .fp8e4m3 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S256x1 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S256x4096 .fp8e4m3 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S256x1 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]
-- ==== ReferenceIdeal.lean ====
abbrev S4x1536x3072 : Shape := ⟨3, ![4, 1536, 3072]⟩
abbrev S4x1536 : Shape := ⟨2, ![4, 1536]⟩
abbrev S3072 : Shape := ⟨1, ![3072]⟩
abbrev S3072x4608 : Shape := ⟨2, ![3072, 4608]⟩
abbrev S4608 : Shape := ⟨1, ![4608]⟩
abbrev S1536x3072 : Shape := ⟨2, ![1536, 3072]⟩
abbrev S3072x4096 : Shape := ⟨2, ![3072, 4096]⟩
abbrev S4096 : Shape := ⟨1, ![4096]⟩
abbrev S4096x3072 : Shape := ⟨2, ![4096, 3072]⟩
abbrev S4x1536x1 : Shape := ⟨3, ![4, 1536, 1]⟩
abbrev S4x1536x1536 : Shape := ⟨3, ![4, 1536, 1536]⟩
abbrev S4x1536x4096 : Shape := ⟨3, ![4, 1536, 4096]⟩
abbrev S1x1x3072 : Shape := ⟨3, ![1, 1, 3072]⟩
abbrev S6144x3072 : Shape := ⟨2, ![6144, 3072]⟩
abbrev S6144x4608 : Shape := ⟨2, ![6144, 4608]⟩
abbrev S4x1536x4608 : Shape := ⟨3, ![4, 1536, 4608]⟩
abbrev S1x1x4608 : Shape := ⟨3, ![1, 1, 4608]⟩
abbrev S4x1536x3x16x96 : Shape := ⟨5, ![4, 1536, 3, 16, 96]⟩
abbrev S3x4x16x1536x96 : Shape := ⟨5, ![3, 4, 16, 1536, 96]⟩
abbrev S3x64x1536x96 : Shape := ⟨4, ![3, 64, 1536, 96]⟩
abbrev S1x64x1536x96 : Shape := ⟨4, ![1, 64, 1536, 96]⟩
abbrev S64x1536x96 : Shape := ⟨3, ![64, 1536, 96]⟩
abbrev S64x1536x1536 : Shape := ⟨3, ![64, 1536, 1536]⟩
abbrev S4x1x1536x1 : Shape := ⟨4, ![4, 1, 1536, 1]⟩
abbrev S4x1x1x1536 : Shape := ⟨4, ![4, 1, 1, 1536]⟩
abbrev S4x1x1536x1536 : Shape := ⟨4, ![4, 1, 1536, 1536]⟩
abbrev S4x16x1536x1536 : Shape := ⟨4, ![4, 16, 1536, 1536]⟩
abbrev S4x16x1536 : Shape := ⟨3, ![4, 16, 1536]⟩
abbrev S4x16x1536x1 : Shape := ⟨4, ![4, 16, 1536, 1]⟩
abbrev S4x16x1536x96 : Shape := ⟨4, ![4, 16, 1536, 96]⟩
abbrev S4x1536x16x96 : Shape := ⟨4, ![4, 1536, 16, 96]⟩
abbrev S6144x1536 : Shape := ⟨2, ![6144, 1536]⟩
abbrev S6144x4096 : Shape := ⟨2, ![6144, 4096]⟩
abbrev S1x1x4096 : Shape := ⟨3, ![1, 1, 4096]⟩

abbrev nBuf : Space → Nat
  | .hbm => 27
  | .vmem => 27
  | .smem => 0
  | _ => 0

abbrev bufTy : (tb : Table) → Fin (tcTables nBuf tb) → BufTy
  | .hbm, ⟨0, _⟩ => ⟨S4x1536x3072, .bf16⟩
  | .hbm, ⟨1, _⟩ => ⟨S4x1536, .i32⟩
  | .hbm, ⟨2, _⟩ => ⟨S3072, .f32⟩
  | .hbm, ⟨3, _⟩ => ⟨S3072, .f32⟩
  | .hbm, ⟨4, _⟩ => ⟨S3072x4608, .fp8e4m3⟩
  | .hbm, ⟨5, _⟩ => ⟨S4608, .f32⟩
  | .hbm, ⟨6, _⟩ => ⟨S4608, .f32⟩
  | .hbm, ⟨7, _⟩ => ⟨S1536x3072, .fp8e4m3⟩
  | .hbm, ⟨8, _⟩ => ⟨S3072, .f32⟩
  | .hbm, ⟨9, _⟩ => ⟨S3072, .f32⟩
  | .hbm, ⟨10, _⟩ => ⟨S3072, .f32⟩
  | .hbm, ⟨11, _⟩ => ⟨S3072, .f32⟩
  | .hbm, ⟨12, _⟩ => ⟨S3072x4096, .fp8e4m3⟩
  | .hbm, ⟨13, _⟩ => ⟨S4096, .f32⟩
  | .hbm, ⟨14, _⟩ => ⟨S4096, .f32⟩
  | .hbm, ⟨15, _⟩ => ⟨S4096x3072, .fp8e4m3⟩
  | .hbm, ⟨16, _⟩ => ⟨S3072, .f32⟩
  | .hbm, ⟨17, _⟩ => ⟨S3072, .f32⟩
  | .hbm, ⟨18, _⟩ => ⟨S4x1536x3072, .bf16⟩
  | .hbm, ⟨19, _⟩ => ⟨S4x1536x3072, .fp8e4m3⟩
  | .hbm, ⟨20, _⟩ => ⟨S4x1536x1, .f32⟩
  | .hbm, ⟨21, _⟩ => ⟨S4x1536x1536, .fp8e4m3⟩
  | .hbm, ⟨22, _⟩ => ⟨S4x1536x1, .f32⟩
  | .hbm, ⟨23, _⟩ => ⟨S4x1536x3072, .fp8e4m3⟩
  | .hbm, ⟨24, _⟩ => ⟨S4x1536x1, .f32⟩
  | .hbm, ⟨25, _⟩ => ⟨S4x1536x4096, .fp8e4m3⟩
  | .hbm, ⟨26, _⟩ => ⟨S4x1536x1, .f32⟩
  | .local _ .vmem, ⟨0, _⟩ => ⟨S4x1536x3072, .bf16⟩
  | .local _ .vmem, ⟨1, _⟩ => ⟨S4x1536, .i32⟩
  | .local _ .vmem, ⟨2, _⟩ => ⟨S3072, .f32⟩
  | .local _ .vmem, ⟨3, _⟩ => ⟨S3072, .f32⟩
  | .local _ .vmem, ⟨4, _⟩ => ⟨S3072x4608, .fp8e4m3⟩
  | .local _ .vmem, ⟨5, _⟩ => ⟨S4608, .f32⟩
  | .local _ .vmem, ⟨6, _⟩ => ⟨S4608, .f32⟩
  | .local _ .vmem, ⟨7, _⟩ => ⟨S1536x3072, .fp8e4m3⟩
  | .local _ .vmem, ⟨8, _⟩ => ⟨S3072, .f32⟩
  | .local _ .vmem, ⟨9, _⟩ => ⟨S3072, .f32⟩
  | .local _ .vmem, ⟨10, _⟩ => ⟨S3072, .f32⟩
  | .local _ .vmem, ⟨11, _⟩ => ⟨S3072, .f32⟩
  | .local _ .vmem, ⟨12, _⟩ => ⟨S3072x4096, .fp8e4m3⟩
  | .local _ .vmem, ⟨13, _⟩ => ⟨S4096, .f32⟩
  | .local _ .vmem, ⟨14, _⟩ => ⟨S4096, .f32⟩
  | .local _ .vmem, ⟨15, _⟩ => ⟨S4096x3072, .fp8e4m3⟩
  | .local _ .vmem, ⟨16, _⟩ => ⟨S3072, .f32⟩
  | .local _ .vmem, ⟨17, _⟩ => ⟨S3072, .f32⟩
  | .local _ .vmem, ⟨18, _⟩ => ⟨S4x1536x3072, .bf16⟩
  | .local _ .vmem, ⟨19, _⟩ => ⟨S4x1536x3072, .fp8e4m3⟩
  | .local _ .vmem, ⟨20, _⟩ => ⟨S4x1536x1, .f32⟩
  | .local _ .vmem, ⟨21, _⟩ => ⟨S4x1536x1536, .fp8e4m3⟩
  | .local _ .vmem, ⟨22, _⟩ => ⟨S4x1536x1, .f32⟩
  | .local _ .vmem, ⟨23, _⟩ => ⟨S4x1536x3072, .fp8e4m3⟩
  | .local _ .vmem, ⟨24, _⟩ => ⟨S4x1536x1, .f32⟩
  | .local _ .vmem, ⟨25, _⟩ => ⟨S4x1536x4096, .fp8e4m3⟩
  | .local _ .vmem, ⟨26, _⟩ => ⟨S4x1536x1, .f32⟩
  | _, _ => ⟨S4x1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev main_v0_5 : Ref sig .tc := ⟨.hbm, 23, rfl⟩
abbrev main_v0_6 : Ref sig .tc := ⟨.hbm, 24, rfl⟩
abbrev main_v0_7 : Ref sig .tc := ⟨.hbm, 25, rfl⟩
abbrev main_v0_8 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S4x1536x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1536 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3072x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4096x3072 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x1536x3072 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x1536x3072 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x1536x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x1536x1536 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x1536x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x1536x3072 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x1536x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x1536x4096 .fp8e4m3 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4x1536x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Proof.Spec.lean ====
/- The layer as plain functions on the extended reals: what each of the nine results is, one token at a
   time. Nothing here mentions a program; both programs are proved equal to these functions. -/
module

public import Idealize.ShloMosaic.Lib.Pointwise

@[expose] public section

noncomputable section

namespace Cert.Vit

open Idealize.ShloMosaic

/-- A vector of `n` extended reals: one token's row. -/
abbrev Row (n : ℕ) := Fin n → EReal

/-- The value of a binary32 constant, given by its bit pattern. -/
abbrev f32 (b : BitVec 32) : EReal := Ideal.ofBits .f32 b

/-! ### Layer norm -/

/-- The mean of a row (the constant is 3072). -/
def mean (x : Row 3072) : EReal := Ideal.div (∑ k, x k) (f32 0x45400000#32)

/-- The mean squared distance from the mean. -/
def variance (x : Row 3072) : EReal :=
  Ideal.div (∑ k, (x k - mean x) * (x k - mean x)) (f32 0x45400000#32)

/-- Layer norm of a row with gain `g` and bias `b` (the constant is the binary32 `1e-6`). -/
def layernorm (x g b : Row 3072) : Row 3072 := fun j =>
  (x j - mean x) * Ideal.rsqrt (variance x + f32 0x358637BD#32) * g j + b j

/-! ### The per-token power-of-two quantiser -/

/-- The largest absolute value of a row. -/
def amax {n : ℕ} (v : Row n) : EReal :=
  Finset.univ.fold max (f32 0xFF800000#32) fun k => max (v k) (-v k)

/-- The largest absolute value over 448, 448 being the largest 8-bit float. -/
def level {n : ℕ} (v : Row n) : EReal := amax v * f32 0x3B124925#32

/-- The exponent `e` with `2^(e-1) ≤ y < 2^e`; 0 for a `y` below the normal numbers, and at most 126. -/
def exponent (y : EReal) : EReal :=
  if y < f32 0x00800000#32 then 0
  else Ideal.liftRound Int.floor
    (Ideal.div (Ideal.log (min y (f32 0x7E000000#32))) (Ideal.log (f32 0x40000000#32))) + 1

/-- The scale of a row: a power of two. -/
def scale {n : ℕ} (v : Row n) : EReal := Ideal.exp2 (exponent (level v))

/-- The codes of a row: the row over its scale, clipped to ±448. -/
def codes {n : ℕ} (v : Row n) : Row n := fun j =>
  min (f32 0x43E00000#32) (max (f32 0xC3E00000#32) (v j * Ideal.exp2 (0 - exponent (level v))))

/-- A linear layer on a quantised row: codes times the weights, the row's scale and the columns' scales put
    back, plus the bias. -/
def linear {m n : ℕ} (v : Row m) (w : Fin m → Row n) (ws b : Row n) : Row n := fun j =>
  (∑ k, codes v k * w k j) * scale v * ws j + b j

/-! ### Attention within a segment -/

/-- The score of a query against a key: their scaled product, and `-∞` across segments. -/
def score (q k : Row 96) (sq sk : BitVec 32) : EReal :=
  if sq = sk then (∑ d, q d * k d) * f32 0x3DD105EC#32 else f32 0xFF800000#32

/-- The maximum of a row of scores. -/
def top (s : Row 1536) : EReal := Finset.univ.fold max (f32 0xFF800000#32) s

/-- Softmax of a row of scores. -/
def softmax (s : Row 1536) : Row 1536 := fun k =>
  Ideal.div (Ideal.exp (s k - top s)) (∑ l, Ideal.exp (s l - top s))

/-- One head's output for one query. -/
def attend (q : Row 96) (K V : Fin 1536 → Row 96) (sq : BitVec 32) (sk : Fin 1536 → BitVec 32) : Row 96 :=
  fun d => ∑ k, softmax (fun l => score q (K l) sq (sk l)) k * V k d

/-! ### The layer -/

/-- The exact gelu. -/
def gelu (f : EReal) : EReal := f32 0x3F000000#32 * f * (1 + Ideal.erf (f * f32 0x3F3504F3#32))

/-- The arguments of the layer. -/
structure Args where
  x : Fin 4 → Fin 1536 → Row 3072
  seg : Fin 4 → Fin 1536 → BitVec 32
  g1 : Row 3072
  b1 : Row 3072
  wqkv : Fin 3072 → Row 4608
  sqkv : Row 4608
  bqkv : Row 4608
  wo : Fin 1536 → Row 3072
  so : Row 3072
  bo : Row 3072
  g2 : Row 3072
  b2 : Row 3072
  w1 : Fin 3072 → Row 4096
  s1 : Row 4096
  c1 : Row 4096
  w2 : Fin 4096 → Row 3072
  s2 : Row 3072
  c2 : Row 3072

namespace Args

variable (a : Args) (b : Fin 4) (s : Fin 1536)

/-- The first layer norm. -/
def a1 : Row 3072 := layernorm (a.x b s) a.g1 a.b1

/-- Queries, keys and values of a token, side by side. -/
def qkv : Row 4608 := linear (a.a1 b s) a.wqkv a.sqkv a.bqkv

/-- Column `d` of head `h` in part `p` (0 queries, 1 keys, 2 values). -/
def col (p : Fin 3) (h : Fin 16) (d : Fin 96) : Fin 4608 :=
  ⟨1536 * p.val + (96 * h.val + d.val), by omega⟩

/-- One head's row of one part. -/
def head (p : Fin 3) (h : Fin 16) : Row 96 := fun d => a.qkv b s (col p h d)

/-- The attention output of a token, its heads side by side. -/
def attn : Row 1536 := fun j =>
  attend (a.head b s 0 ⟨j.val / 96, by omega⟩) (fun k => a.head b k 1 ⟨j.val / 96, by omega⟩)
    (fun k => a.head b k 2 ⟨j.val / 96, by omega⟩) (a.seg b s) (a.seg b) ⟨j.val % 96, by omega⟩

/-- The residual after attention. -/
def hidden : Row 3072 := fun j => a.x b s j + linear (a.attn b s) a.wo a.so a.bo j

/-- The second layer norm. -/
def a2 : Row 3072 := layernorm (a.hidden b s) a.g2 a.b2

/-- The activation of the MLP. -/
def act : Row 4096 := fun j => gelu (linear (a.a2 b s) a.w1 a.s1 a.c1 j)

/-- The layer's output. -/
def y : Row 3072 := fun j => a.hidden b s j + linear (a.act b s) a.w2 a.s2 a.c2 j

end Args

end Cert.Vit
-- ==== Proof.Arrays.lean ====
/- The layer on arrays: its arguments and its nine results. -/
module

public import proofs.«01_k».proof.Proof.Spec

@[expose] public section

set_option maxRecDepth 16384

noncomputable section

namespace Cert.Vit

open Idealize.ShloMosaic

/-- The layer's arguments, from the arrays that hold them. -/
def ofArrays (x : Vec Ideal ⟨3, ![4, 1536, 3072]⟩ .bf16)
    (seg : Vec Ideal ⟨2, ![4, 1536]⟩ .i32)
    (g1 : Vec Ideal ⟨1, ![3072]⟩ .f32)
    (b1 : Vec Ideal ⟨1, ![3072]⟩ .f32)
    (wqkv : Vec Ideal ⟨2, ![3072, 4608]⟩ .fp8e4m3)
    (sqkv : Vec Ideal ⟨1, ![4608]⟩ .f32)
    (bqkv : Vec Ideal ⟨1, ![4608]⟩ .f32)
    (wo : Vec Ideal ⟨2, ![1536, 3072]⟩ .fp8e4m3)
    (so : Vec Ideal ⟨1, ![3072]⟩ .f32)
    (bo : Vec Ideal ⟨1, ![3072]⟩ .f32)
    (g2 : Vec Ideal ⟨1, ![3072]⟩ .f32)
    (b2 : Vec Ideal ⟨1, ![3072]⟩ .f32)
    (w1 : Vec Ideal ⟨2, ![3072, 4096]⟩ .fp8e4m3)
    (s1 : Vec Ideal ⟨1, ![4096]⟩ .f32)
    (c1 : Vec Ideal ⟨1, ![4096]⟩ .f32)
    (w2 : Vec Ideal ⟨2, ![4096, 3072]⟩ .fp8e4m3)
    (s2 : Vec Ideal ⟨1, ![3072]⟩ .f32)
    (c2 : Vec Ideal ⟨1, ![3072]⟩ .f32) : Args where
  x := fun b s k => x (ix3 b s k)
  seg := fun b s => seg (ix2 b s)
  g1 := fun k => g1 (ix1 k)
  b1 := fun k => b1 (ix1 k)
  wqkv := fun k j => wqkv (ix2 k j)
  sqkv := fun k => sqkv (ix1 k)
  bqkv := fun k => bqkv (ix1 k)
  wo := fun k j => wo (ix2 k j)
  so := fun k => so (ix1 k)
  bo := fun k => bo (ix1 k)
  g2 := fun k => g2 (ix1 k)
  b2 := fun k => b2 (ix1 k)
  w1 := fun k j => w1 (ix2 k j)
  s1 := fun k => s1 (ix1 k)
  c1 := fun k => c1 (ix1 k)
  w2 := fun k j => w2 (ix2 k j)
  s2 := fun k => s2 (ix1 k)
  c2 := fun k => c2 (ix1 k)

namespace Args

variable (a : Args)

/-- The output, as an array. -/
def yArr : Vec Ideal ⟨3, ![4, 1536, 3072]⟩ .bf16 := fun i => a.y (i 0) (i 1) (i 2)

/-- The codes of the first layer norm, as an array. -/
def a1Codes : Vec Ideal ⟨3, ![4, 1536, 3072]⟩ .fp8e4m3 := fun i => codes (a.a1 (i 0) (i 1)) (i 2)

/-- The scales of the first layer norm, as an array. -/
def a1Scale : Vec Ideal ⟨3, ![4, 1536, 1]⟩ .f32 := fun i => scale (a.a1 (i 0) (i 1))

/-- The codes of the attention output, as an array. -/
def oCodes : Vec Ideal ⟨3, ![4, 1536, 1536]⟩ .fp8e4m3 := fun i => codes (a.attn (i 0) (i 1)) (i 2)

/-- The scales of the attention output, as an array. -/
def oScale : Vec Ideal ⟨3, ![4, 1536, 1]⟩ .f32 := fun i => scale (a.attn (i 0) (i 1))

/-- The codes of the second layer norm, as an array. -/
def a2Codes : Vec Ideal ⟨3, ![4, 1536, 3072]⟩ .fp8e4m3 := fun i => codes (a.a2 (i 0) (i 1)) (i 2)

/-- The scales of the second layer norm, as an array. -/
def a2Scale : Vec Ideal ⟨3, ![4, 1536, 1]⟩ .f32 := fun i => scale (a.a2 (i 0) (i 1))

/-- The codes of the activation, as an array. -/
def gCodes : Vec Ideal ⟨3, ![4, 1536, 4096]⟩ .fp8e4m3 := fun i => codes (a.act (i 0) (i 1)) (i 2)

/-- The scales of the activation, as an array. -/
def gScale : Vec Ideal ⟨3, ![4, 1536, 1]⟩ .f32 := fun i => scale (a.act (i 0) (i 1))

end Args

end Cert.Vit
-- ==== Proof.Tokens.lean ====
/- Tokens counted over the whole batch: row `r` of a flattened array is token `r % 1536` of sequence `r / 1536`. -/
module

public import proofs.«01_k».proof.Proof.Arrays

@[expose] public section

set_option maxRecDepth 16384

noncomputable section

namespace Cert.Vit.K

open Idealize.ShloMosaic

/-- The sequence of a row. -/
def tb (r : Fin 6144) : Fin 4 := ⟨r.val / 1536, by omega⟩

/-- The place of a row in its sequence. -/
def ts (r : Fin 6144) : Fin 1536 := ⟨r.val % 1536, by omega⟩

/-- The row of a token. -/
def row (b : Fin 4) (s : Fin 1536) : Fin 6144 := ⟨b.val * 1536 + s.val, by omega⟩

theorem tb_row (b : Fin 4) (s : Fin 1536) : tb (row b s) = b := by
  apply Fin.ext
  simp only [tb, row]
  omega

theorem ts_row (b : Fin 4) (s : Fin 1536) : ts (row b s) = s := by
  apply Fin.ext
  simp only [ts, row]
  omega

/-- A two-coordinate index is its coordinates. -/
theorem eta2 {a b : ℕ} (i : (⟨2, ![a, b]⟩ : Shape).Idx) : i = ix2 (i 0 : Fin a) (i 1 : Fin b) := by
  funext k
  fin_cases k <;> rfl

/-- A three-coordinate index is its coordinates. -/
theorem eta3 {a b n : ℕ} (i : (⟨3, ![a, b, n]⟩ : Shape).Idx) : i = ix3 (i 0 : Fin a) (i 1 : Fin b) (i 2 : Fin n) := by
  funext k
  fin_cases k <;> rfl

/-- A token's row for every token, the tokens counted over the whole batch. -/
def flat {n : ℕ} (f : Fin 4 → Fin 1536 → Row n) : (⟨2, ![6144, n]⟩ : Shape).Idx → EReal :=
  fun i => f (tb (i 0)) (ts (i 0)) (i 1)

/-- `flat` at an index. -/
theorem flat_at {n : ℕ} (f : Fin 4 → Fin 1536 → Row n) (r : Fin 6144) (j : Fin n) :
    flat f (ix2 r j) = f (tb r) (ts r) j := rfl

/-- A token's row for every token, by sequence and place. -/
def cube {n : ℕ} (f : Fin 4 → Fin 1536 → Row n) : (⟨3, ![4, 1536, n]⟩ : Shape).Idx → EReal :=
  fun i => f (i 0) (i 1) (i 2)

end Cert.Vit.K
-- ==== Proof.KernelHost.lean ====
/- What the reshapes between the three calls leave, at an index. -/
module

public import proofs.«01_k».proof.Proof.Tokens
public import proofs.«01_k».proof.Proof.Gen.KernelIdeal.Frame
public import Idealize.ShloMosaic.Lib.StableHlo.ReadAt

@[expose] public section

set_option maxRecDepth 16384

noncomputable section

namespace Cert.Vit.K

open Idealize.ShloMosaic Idealize.ShloMosaic.TcCoe Cert.KernelIdeal Cert.KernelIdeal.Gen

variable (Z : Valuation τ sig (Elt Ideal))

theorem at_v0 (r : Fin 6144) (k : Fin 3072) : (StableHlo.after (hostOps0 (F := Ideal)) Z (Proc.devRef .tc main_v0) : Vec Ideal S6144x3072 .bf16) (ix2 r k)
    = (Z (Proc.devRef .tc main_arg0) : Vec Ideal S4x1536x3072 .bf16) (ix3 (tb r) (ts r) k) := by
  after_reads_at
  rfl

theorem at_v1 (k : Fin 3072) : (StableHlo.after (hostOps0 (F := Ideal)) Z (Proc.devRef .tc main_v1) : Vec Ideal S1x3072 .f32) (ix2 (0 : Fin 1) k)
    = (Z (Proc.devRef .tc main_arg2) : Vec Ideal S3072 .f32) (ix1 k) := by
  after_reads_at

theorem at_v2 (k : Fin 3072) : (StableHlo.after (hostOps0 (F := Ideal)) Z (Proc.devRef .tc main_v2) : Vec Ideal S1x3072 .f32) (ix2 (0 : Fin 1) k)
    = (Z (Proc.devRef .tc main_arg3) : Vec Ideal S3072 .f32) (ix1 k) := by
  after_reads_at

theorem at_v3 (k : Fin 4608) : (StableHlo.after (hostOps0 (F := Ideal)) Z (Proc.devRef .tc main_v3) : Vec Ideal S1x4608 .f32) (ix2 (0 : Fin 1) k)
    = (Z (Proc.devRef .tc main_arg5) : Vec Ideal S4608 .f32) (ix1 k) := by
  after_reads_at

theorem at_v4 (k : Fin 4608) : (StableHlo.after (hostOps0 (F := Ideal)) Z (Proc.devRef .tc main_v4) : Vec Ideal S1x4608 .f32) (ix2 (0 : Fin 1) k)
    = (Z (Proc.devRef .tc main_arg6) : Vec Ideal S4608 .f32) (ix1 k) := by
  after_reads_at

theorem at_v6 (b : Fin 4) (s : Fin 1536) (k : Fin 4608) : (StableHlo.after (hostOps1 (F := Ideal)) Z (Proc.devRef .tc main_v6) : Vec Ideal S4x1536x4608 .bf16) (ix3 b s k)
    = (Z (Proc.devRef .tc main_v5_0) : Vec Ideal S6144x4608 .bf16) (ix2 (row b s) k) := by
  after_reads_at
  rfl

theorem at_v7 (b : Fin 4) (s : Fin 1536) : (StableHlo.after (hostOps1 (F := Ideal)) Z (Proc.devRef .tc main_v7) : Vec Ideal S4x1536x1 .i32) (ix3 b s (0 : Fin 1))
    = (Z (Proc.devRef .tc main_arg1) : Vec Ideal S4x1536 .i32) (ix2 b s) := by
  after_reads_at

theorem at_v8 (b : Fin 4) (s : Fin 1536) : (StableHlo.after (hostOps1 (F := Ideal)) Z (Proc.devRef .tc main_v8) : Vec Ideal S4x1x1536 .i32) (ix3 b (0 : Fin 1) s)
    = (Z (Proc.devRef .tc main_arg1) : Vec Ideal S4x1536 .i32) (ix2 b s) := by
  after_reads_at

theorem at_v10 (r : Fin 6144) (k : Fin 1536) : (StableHlo.after (hostOps2 (F := Ideal)) Z (Proc.devRef .tc main_v10) : Vec Ideal S6144x1536 .f32) (ix2 r k)
    = (Z (Proc.devRef .tc main_v9) : Vec Ideal S4x1536x1536 .f32) (ix3 (tb r) (ts r) k) := by
  after_reads_at
  rfl

theorem at_v11 (k : Fin 3072) : (StableHlo.after (hostOps2 (F := Ideal)) Z (Proc.devRef .tc main_v11) : Vec Ideal S1x3072 .f32) (ix2 (0 : Fin 1) k)
    = (Z (Proc.devRef .tc main_arg8) : Vec Ideal S3072 .f32) (ix1 k) := by
  after_reads_at

theorem at_v12 (k : Fin 3072) : (StableHlo.after (hostOps2 (F := Ideal)) Z (Proc.devRef .tc main_v12) : Vec Ideal S1x3072 .f32) (ix2 (0 : Fin 1) k)
    = (Z (Proc.devRef .tc main_arg9) : Vec Ideal S3072 .f32) (ix1 k) := by
  after_reads_at

theorem at_v13 (k : Fin 3072) : (StableHlo.after (hostOps2 (F := Ideal)) Z (Proc.devRef .tc main_v13) : Vec Ideal S1x3072 .f32) (ix2 (0 : Fin 1) k)
    = (Z (Proc.devRef .tc main_arg10) : Vec Ideal S3072 .f32) (ix1 k) := by
  after_reads_at

theorem at_v14 (k : Fin 3072) : (StableHlo.after (hostOps2 (F := Ideal)) Z (Proc.devRef .tc main_v14) : Vec Ideal S1x3072 .f32) (ix2 (0 : Fin 1) k)
    = (Z (Proc.devRef .tc main_arg11) : Vec Ideal S3072 .f32) (ix1 k) := by
  after_reads_at

theorem at_v15 (k : Fin 4096) : (StableHlo.after (hostOps2 (F := Ideal)) Z (Proc.devRef .tc main_v15) : Vec Ideal S1x4096 .f32) (ix2 (0 : Fin 1) k)
    = (Z (Proc.devRef .tc main_arg13) : Vec Ideal S4096 .f32) (ix1 k) := by
  after_reads_at

theorem at_v16 (k : Fin 4096) : (StableHlo.after (hostOps2 (F := Ideal)) Z (Proc.devRef .tc main_v16) : Vec Ideal S1x4096 .f32) (ix2 (0 : Fin 1) k)
    = (Z (Proc.devRef .tc main_arg14) : Vec Ideal S4096 .f32) (ix1 k) := by
  after_reads_at

theorem at_v17 (k : Fin 3072) : (StableHlo.after (hostOps2 (F := Ideal)) Z (Proc.devRef .tc main_v17) : Vec Ideal S1x3072 .f32) (ix2 (0 : Fin 1) k)
    = (Z (Proc.devRef .tc main_arg16) : Vec Ideal S3072 .f32) (ix1 k) := by
  after_reads_at

theorem at_v18 (k : Fin 3072) : (StableHlo.after (hostOps2 (F := Ideal)) Z (Proc.devRef .tc main_v18) : Vec Ideal S1x3072 .f32) (ix2 (0 : Fin 1) k)
    = (Z (Proc.devRef .tc main_arg17) : Vec Ideal S3072 .f32) (ix1 k) := by
  after_reads_at

theorem at_v20 (b : Fin 4) (s : Fin 1536) (k : Fin 3072) : (StableHlo.after (hostOps3 (F := Ideal)) Z (Proc.devRef .tc main_v20) : Vec Ideal S4x1536x3072 .bf16) (ix3 b s k)
    = (Z (Proc.devRef .tc main_v19_0) : Vec Ideal S6144x3072 .bf16) (ix2 (row b s) k) := by
  after_reads_at
  rfl

theorem at_v21 (b : Fin 4) (s : Fin 1536) (k : Fin 3072) : (StableHlo.after (hostOps3 (F := Ideal)) Z (Proc.devRef .tc main_v21) : Vec Ideal S4x1536x3072 .fp8e4m3) (ix3 b s k)
    = (Z (Proc.devRef .tc main_v5_1) : Vec Ideal S6144x3072 .fp8e4m3) (ix2 (row b s) k) := by
  after_reads_at
  rfl

theorem at_v22 (b : Fin 4) (s : Fin 1536) : (StableHlo.after (hostOps3 (F := Ideal)) Z (Proc.devRef .tc main_v22) : Vec Ideal S4x1536x1 .f32) (ix3 b s (0 : Fin 1))
    = (Z (Proc.devRef .tc main_v5_2) : Vec Ideal S6144x1 .f32) (ix2 (row b s) (0 : Fin 1)) := by
  after_reads_at
  rfl

theorem at_v23 (b : Fin 4) (s : Fin 1536) (k : Fin 1536) : (StableHlo.after (hostOps3 (F := Ideal)) Z (Proc.devRef .tc main_v23) : Vec Ideal S4x1536x1536 .fp8e4m3) (ix3 b s k)
    = (Z (Proc.devRef .tc main_v19_1) : Vec Ideal S6144x1536 .fp8e4m3) (ix2 (row b s) k) := by
  after_reads_at
  rfl

theorem at_v24 (b : Fin 4) (s : Fin 1536) : (StableHlo.after (hostOps3 (F := Ideal)) Z (Proc.devRef .tc main_v24) : Vec Ideal S4x1536x1 .f32) (ix3 b s (0 : Fin 1))
    = (Z (Proc.devRef .tc main_v19_2) : Vec Ideal S6144x1 .f32) (ix2 (row b s) (0 : Fin 1)) := by
  after_reads_at
  rfl

theorem at_v25 (b : Fin 4) (s : Fin 1536) (k : Fin 3072) : (StableHlo.after (hostOps3 (F := Ideal)) Z (Proc.devRef .tc main_v25) : Vec Ideal S4x1536x3072 .fp8e4m3) (ix3 b s k)
    = (Z (Proc.devRef .tc main_v19_3) : Vec Ideal S6144x3072 .fp8e4m3) (ix2 (row b s) k) := by
  after_reads_at
  rfl

theorem at_v26 (b : Fin 4) (s : Fin 1536) : (StableHlo.after (hostOps3 (F := Ideal)) Z (Proc.devRef .tc main_v26) : Vec Ideal S4x1536x1 .f32) (ix3 b s (0 : Fin 1))
    = (Z (Proc.devRef .tc main_v19_4) : Vec Ideal S6144x1 .f32) (ix2 (row b s) (0 : Fin 1)) := by
  after_reads_at
  rfl

theorem at_v27 (b : Fin 4) (s : Fin 1536) (k : Fin 4096) : (StableHlo.after (hostOps3 (F := Ideal)) Z (Proc.devRef .tc main_v27) : Vec Ideal S4x1536x4096 .fp8e4m3) (ix3 b s k)
    = (Z (Proc.devRef .tc main_v19_5) : Vec Ideal S6144x4096 .fp8e4m3) (ix2 (row b s) k) := by
  after_reads_at
  rfl

theorem at_v28 (b : Fin 4) (s : Fin 1536) : (StableHlo.after (hostOps3 (F := Ideal)) Z (Proc.devRef .tc main_v28) : Vec Ideal S4x1536x1 .f32) (ix3 b s (0 : Fin 1))
    = (Z (Proc.devRef .tc main_v19_6) : Vec Ideal S6144x1 .f32) (ix2 (row b s) (0 : Fin 1)) := by
  after_reads_at
  rfl

end Cert.Vit.K
-- ==== Proof.Scale.lean ====
/- The power-of-two scale, found by counting: among the floats with the bit patterns `i·2^23`, `i < 253`
   (zero and the powers of two from `2^-126` to `2^125`), count those at most `y`. The float of the bit pattern
   built from that count is `2^e` for the exponent `e` of `y`, and the opposite pattern gives `2^-e`. -/
module

public import proofs.«01_k».proof.Proof.Spec
import Idealize.ShloMosaic.Lib.IndicatorCount

@[expose] public section

noncomputable section

namespace Cert.Vit

open Idealize.ShloMosaic

/-- The float whose exponent field is `w` and whose other bits are 0. -/
abbrev pw (w : BitVec 32) : EReal := f32 (IntOp.shli .vector w 23#32)

/-- How many of the 253 powers are at most `y`. -/
abbrev count (y : EReal) : BitVec 32 :=
  Finset.univ.fold IntOp.addi (0#32) fun i : Fin 253 =>
    BitVec.setWidth 32 (BitVec.ofBool (decide (pw (BitVec.ofNat 32 i.val) ≤ y)))

/-- The exponent read off a count `c`: `c - 1` is the exponent field of `y`. -/
abbrev field (c : BitVec 32) : BitVec 32 :=
  Scalar.select (IntOp.cmpi .eq (IntOp.subi c 1#32) 0#32) 0#32 (IntOp.subi (IntOp.subi c 1#32) 126#32)

theorem pw_bits : ∀ i : Fin 255,
    (IntOp.shli .vector (BitVec.ofNat 32 i.val) 23#32).extractLsb' 31 1 = 0#1 ∧
    ((IntOp.shli .vector (BitVec.ofNat 32 i.val) 23#32).extractLsb' 23 8).toNat = i.val ∧
    ((IntOp.shli .vector (BitVec.ofNat 32 i.val) 23#32).extractLsb' 0 23).toNat = 0 := by
  decide +kernel

theorem pw_zero : pw (BitVec.ofNat 32 0) = 0 := by
  simp [Ideal.ofBits, Ideal.ieee, IntOp.shli]

theorem pow_shift (i : ℕ) : (8388608 : ℝ) * 2 ^ ((i : ℤ) - 127 - 23) = 2 ^ ((i : ℤ) - 127) := by
  have h : (8388608 : ℝ) = 2 ^ (23 : ℤ) := by norm_num
  have h' : (23 : ℤ) + ((i : ℤ) - 127 - 23) = (i : ℤ) - 127 := by omega
  rw [h, ← zpow_add₀ two_ne_zero, h']

theorem pw_pos (i : ℕ) (h1 : 1 ≤ i) (h2 : i < 255) :
    pw (BitVec.ofNat 32 i) = (((2 : ℝ) ^ ((i : ℤ) - 127) : ℝ) : EReal) := by
  obtain ⟨hs, he, hm⟩ := pw_bits ⟨i, h2⟩
  simp only at hs he hm
  simp only [Ideal.ofBits, Ideal.ieee]
  simp only [hs, he, hm]
  have h3 : i ≠ 0 := by omega
  have h4 : i ≠ 255 := by omega
  simp [h3, h4, -EReal.coe_mul]
  exact pow_shift i

theorem pw_mono {i j : ℕ} (h : i ≤ j) (hj : j < 255) : pw (BitVec.ofNat 32 i) ≤ pw (BitVec.ofNat 32 j) := by
  rcases Nat.eq_zero_or_pos i with rfl | hi
  · rcases Nat.eq_zero_or_pos j with rfl | hj'
    · exact le_refl _
    · rw [pw_zero, pw_pos j hj' hj]
      rw [← EReal.coe_zero, EReal.coe_le_coe_iff]
      exact (zpow_pos two_pos _).le
  · rw [pw_pos i hi (by omega), pw_pos j (by omega) hj, EReal.coe_le_coe_iff]
    exact zpow_le_zpow_right₀ one_le_two (by omega)

/-- The count of a set of indices that is an initial segment. -/
theorem count_eq (y : EReal) (k : ℕ) (hk : k < 253)
    (h : ∀ i < 253, pw (BitVec.ofNat 32 i) ≤ y ↔ i ≤ k) : count y = BitVec.ofNat 32 (k + 1) := by
  rw [count, IndicatorCount.fold_addi_setWidth_eq_card]
  congr 1
  have : (Finset.univ.filter fun i : Fin 253 => BitVec.ofBool (decide (pw (BitVec.ofNat 32 i.val) ≤ y)) = 1#1)
      = Finset.Iic ⟨k, hk⟩ := by
    ext i
    have := h i.val i.isLt
    simp only [Finset.mem_filter, Finset.mem_univ, true_and, Finset.mem_Iic, Fin.le_def]
    rw [← this]
    by_cases hp : pw (BitVec.ofNat 32 i.val) ≤ y <;> simp [hp]
  rw [this, Fin.card_Iic]

theorem field_up : ∀ k : Fin 253, IntOp.addi (field (BitVec.ofNat 32 (k.val + 1))) 127#32
    = BitVec.ofNat 32 (if k.val = 0 then 127 else k.val + 1) := by decide +kernel

theorem field_down : ∀ k : Fin 253, IntOp.subi 127#32 (field (BitVec.ofNat 32 (k.val + 1)))
    = BitVec.ofNat 32 (if k.val = 0 then 127 else 253 - k.val) := by decide +kernel

/-- Where a level lies among the 253 powers. -/
theorem exists_field (y : EReal) (h0 : 0 ≤ y) : ∃ k : ℕ, k < 253 ∧
    (∀ i < 253, pw (BitVec.ofNat 32 i) ≤ y ↔ i ≤ k) := by
  classical
  let P : ℕ → Prop := fun i => pw (BitVec.ofNat 32 i) ≤ y
  have hP0 : P 0 := by show pw (BitVec.ofNat 32 0) ≤ y; rw [pw_zero]; exact h0
  refine ⟨Nat.findGreatest P 252, by have := Nat.findGreatest_le (P := P) 252; omega, fun i hi => ⟨fun h => ?_, fun h => ?_⟩⟩
  · exact Nat.le_findGreatest (by omega) h
  · have hg : P (Nat.findGreatest P 252) := Nat.findGreatest_spec (Nat.zero_le _) hP0
    exact (pw_mono h (by have := Nat.findGreatest_le (P := P) 252; omega)).trans hg

theorem f32_two : f32 0x40000000#32 = ((2 : ℝ) : EReal) := by
  have h := pw_pos 128 (by norm_num) (by norm_num)
  norm_num [IntOp.shli] at h
  exact_mod_cast h

theorem f32_top : f32 0x7E000000#32 = (((2 : ℝ) ^ (125 : ℤ) : ℝ) : EReal) :=
  pw_pos 252 (by norm_num) (by norm_num)

theorem f32_min : f32 0x00800000#32 = (((2 : ℝ) ^ (-126 : ℤ) : ℝ) : EReal) :=
  pw_pos 1 (by norm_num) (by norm_num)

/-- The exponent of a level that lies from the `k`-th power on. -/
theorem exponent_eq (y : EReal) (k : ℕ) (hk : k < 253)
    (h : ∀ i < 253, pw (BitVec.ofNat 32 i) ≤ y ↔ i ≤ k) :
    exponent y = (((if k = 0 then 0 else (k : ℤ) - 126 : ℤ) : ℝ) : EReal) := by
  rcases Nat.eq_zero_or_pos k with rfl | hk0
  · have h1 : ¬ pw (BitVec.ofNat 32 1) ≤ y := fun hh => by have := (h 1 (by norm_num)).1 hh; omega
    rw [pw_pos 1 (by norm_num) (by norm_num)] at h1
    rw [exponent, if_pos (by rw [f32_min]; simpa using h1)]
    simp
  · have hlo := (h k hk).2 le_rfl
    rw [pw_pos k hk0 (by omega)] at hlo
    obtain ⟨r, hr, hr1, hr2⟩ : ∃ r : ℝ, min y (f32 0x7E000000#32) = (r : EReal) ∧
        (2 : ℝ) ^ ((k : ℤ) - 127) ≤ r ∧ r < (2 : ℝ) ^ ((k : ℤ) - 126) := by
      rw [f32_top]
      by_cases hk2 : k = 252
      · subst hk2
        refine ⟨(2 : ℝ) ^ (125 : ℤ), min_eq_right hlo, by norm_num, by norm_num⟩
      · have hhi : ¬ pw (BitVec.ofNat 32 (k + 1)) ≤ y := fun hh => by
          have := (h (k + 1) (by omega)).1 hh
          omega
        rw [pw_pos (k + 1) (by omega) (by omega), not_le] at hhi
        have hb : y ≠ ⊥ := fun hy => by rw [hy] at hlo; exact absurd hlo (by simp)
        have ht : y ≠ ⊤ := fun hy => by rw [hy] at hhi; exact absurd hhi (by simp)
        lift y to ℝ using ⟨ht, hb⟩
        rw [EReal.coe_le_coe_iff] at hlo
        rw [EReal.coe_lt_coe_iff] at hhi
        have he : ((k + 1 : ℕ) : ℤ) - 127 = (k : ℤ) - 126 := by push_cast; ring
        rw [he] at hhi
        refine ⟨y, min_eq_left ?_, hlo, hhi⟩
        rw [EReal.coe_le_coe_iff]
        exact hhi.le.trans (zpow_le_zpow_right₀ one_le_two (by omega))
    have hr0 : 0 < r := lt_of_lt_of_le (zpow_pos two_pos _) hr1
    have hnot : ¬ y < f32 0x00800000#32 := by
      rw [f32_min, not_lt]
      refine le_trans ?_ hlo
      rw [EReal.coe_le_coe_iff]
      exact zpow_le_zpow_right₀ one_le_two (by omega)
    have hl2 : (0 : ℝ) < Real.log 2 := Real.log_pos one_lt_two
    rw [exponent, if_neg hnot, hr, f32_two]
    have hlog : Ideal.log (r : EReal) = ((Real.log r : ℝ) : EReal) := by
      show (if r ≤ 0 then ⊥ else ((Real.log r : ℝ) : EReal)) = _
      rw [if_neg (not_le.2 hr0)]
    have hlog2 : Ideal.log ((2 : ℝ) : EReal) = ((Real.log 2 : ℝ) : EReal) := by
      show (if (2 : ℝ) ≤ 0 then ⊥ else ((Real.log 2 : ℝ) : EReal)) = _
      rw [if_neg (by norm_num)]
    rw [hlog, hlog2, Ideal.div_coe hl2.ne', ← EReal.coe_mul]
    have hfl : Int.floor (Real.log r * (1 / Real.log 2)) = (k : ℤ) - 127 := by
      rw [Int.floor_eq_iff, mul_one_div, le_div_iff₀ hl2, div_lt_iff₀ hl2]
      constructor
      · rw [← Real.log_zpow]
        exact Real.log_le_log (zpow_pos two_pos _) hr1
      · have : ((((k : ℤ) - 127 : ℤ) : ℝ) + 1) = (((k : ℤ) - 126 : ℤ) : ℝ) := by push_cast; ring
        rw [this, ← Real.log_zpow]
        exact Real.log_lt_log hr0 hr2
    show (((Int.floor (Real.log r * (1 / Real.log 2)) : ℤ) : ℝ) : EReal) + 1 = _
    rw [hfl, if_neg (by omega)]
    rw [← EReal.coe_one, ← EReal.coe_add]
    congr 1
    push_cast
    ring

theorem exp2_int (n : ℤ) : Ideal.exp2 (((n : ℝ)) : EReal) = (((2 : ℝ) ^ n : ℝ) : EReal) := by
  show ((Real.rpow 2 (n : ℝ) : ℝ) : EReal) = _
  congr 1
  exact Real.rpow_intCast 2 n

/-- The float built from the count is the scale. -/
theorem pw_up (y : EReal) (h0 : 0 ≤ y) :
    pw (IntOp.addi (field (count y)) 127#32) = Ideal.exp2 (exponent y) := by
  obtain ⟨k, hk, h⟩ := exists_field y h0
  rw [count_eq y k hk h, field_up ⟨k, hk⟩, exponent_eq y k hk h, exp2_int]
  simp only
  by_cases hk0 : k = 0
  · subst hk0
    rw [if_pos rfl, if_pos rfl, pw_pos 127 (by norm_num) (by norm_num)]
    norm_num
  · rw [if_neg hk0, if_neg hk0, pw_pos (k + 1) (by omega) (by omega)]
    congr 2
    push_cast
    ring

/-- The float of the opposite exponent is the scale's inverse. -/
theorem pw_down (y : EReal) (h0 : 0 ≤ y) :
    pw (IntOp.subi 127#32 (field (count y))) = Ideal.exp2 (0 - exponent y) := by
  obtain ⟨k, hk, h⟩ := exists_field y h0
  rw [count_eq y k hk h, field_down ⟨k, hk⟩, exponent_eq y k hk h]
  have hn : (0 : EReal) - (((if k = 0 then 0 else (k : ℤ) - 126 : ℤ) : ℝ) : EReal)
      = (((-(if k = 0 then 0 else (k : ℤ) - 126) : ℤ) : ℝ) : EReal) := by
    rw [zero_sub, ← EReal.coe_neg, Int.cast_neg]
  rw [hn, exp2_int]
  simp only
  by_cases hk0 : k = 0
  · subst hk0
    rw [if_pos rfl, if_pos rfl, pw_pos 127 (by norm_num) (by norm_num)]
    norm_num
  · rw [if_neg hk0, if_neg hk0, pw_pos (253 - k) (by omega) (by omega)]
    congr 2
    omega

theorem amax_nonneg {n : ℕ} [NeZero n] (v : Row n) : 0 ≤ amax v := by
  rw [amax, Finset.le_fold_max]
  right
  refine ⟨0, Finset.mem_univ _, ?_⟩
  rcases le_total 0 (v 0) with h | h
  · exact le_max_of_le_left h
  · exact le_max_of_le_right (by simpa using EReal.neg_le_neg_iff.2 h)

theorem level_nonneg {n : ℕ} [NeZero n] (v : Row n) : 0 ≤ level v := by
  refine mul_nonneg (amax_nonneg v) ?_
  have : f32 0x3B124925#32 = ((9586981 / 2 ^ 32 : ℝ) : EReal) := by
    simp [Ideal.ofBits, Ideal.ieee, -EReal.coe_mul]
    norm_num
  rw [this]
  exact_mod_cast (by norm_num)

/-- A row's scale, as the float built from the count. -/
theorem scale_eq {n : ℕ} [NeZero n] (v : Row n) : pw (IntOp.addi (field (count (level v))) 127#32) = scale v :=
  pw_up _ (level_nonneg v)

/-- A row's codes, from the float of the opposite exponent. -/
theorem codes_eq {n : ℕ} [NeZero n] (v : Row n) (j : Fin n) :
    min (f32 0x43E00000#32) (max (f32 0xC3E00000#32)
      (v j * pw (IntOp.subi 127#32 (field (count (level v)))))) = codes v j := by
  rw [pw_down _ (level_nonneg v)]
  rfl

end Cert.Vit
-- ==== Proof.Kernel0.lean ====
/- The first call of the kernel on one block of 512 tokens: the layer norm, its codes and scale, and the
   linear layer to queries, keys and values, each row by row. -/
module

public import proofs.«01_k».proof.Proof.Scale
public import proofs.«01_k».proof.Proof.Gen.KernelIdeal.Skeleton

@[expose] public section

set_option maxRecDepth 16384

noncomputable section

namespace Cert.Vit.K0

open Idealize.ShloMosaic Cert.KernelIdeal Cert.KernelIdeal.Gen

variable (v0 : Vec Ideal S512x3072 .bf16) (v3 v5 : Vec Ideal S1x3072 .f32) (r : Fin 512)

theorem ln_at (j : Fin 3072) : k0_pay2 v0 v3 v5 (ix2 r j)
    = layernorm (fun k => v0 (ix2 r k)) (fun k => v3 (ix2 0 k)) (fun k => v5 (ix2 0 k)) j := by
  pointwise [k0_pay2]
  rfl

theorem count_at : k0_pay3 v0 v3 v5 (ix2 r 0) = count (level fun k => k0_pay2 v0 v3 v5 (ix2 r k)) := by
  pointwise [k0_pay3]
  rfl

theorem scale_at (c : IVec S512x1 32) :
    k0_pay6 (F := Ideal) c k0_pay4 (ix2 r 0) = pw (IntOp.addi (field (c (ix2 r 0))) 127#32) := by
  pointwise [k0_pay6, k0_pay5, k0_pay4]

theorem code_at (v : FVec Ideal S512x3072 .f32) (c : IVec S512x1 32) (j : Fin 3072) :
    k0_pay7 v c k0_pay4 (ix2 r j) = min (f32 0x43E00000#32) (max (f32 0xC3E00000#32)
      (v (ix2 r j) * pw (IntOp.subi 127#32 (field (c (ix2 r 0)))))) := by
  pointwise [k0_pay7, k0_pay5, k0_pay4]

theorem linear_at (v : FVec Ideal S512x3072 .f32) (c d : IVec S512x1 32) (w : Vec Ideal S3072x4608 .fp8e4m3)
    (ws b : Vec Ideal S1x4608 .f32) (j : Fin 4608) :
    k0_pay1 (k0_pay8 v c d w ws b) (ix2 r j) = (∑ k : Fin 3072, k0_pay7 v c d (ix2 r k) * w (ix2 k j))
      * k0_pay6 (F := Ideal) c d (ix2 r 0) * ws (ix2 0 j) + b (ix2 0 j) := by
  pointwise [k0_pay8, k0_pay1]

end Cert.Vit.K0
-- ==== Proof.Kernel0Out.lean ====
/- One block of the first call: its three results from its input blocks. -/
module

public import proofs.«01_k».proof.Proof.Kernel0
public import proofs.«01_k».proof.Proof.Tokens
public import proofs.«01_k».proof.Proof.Gen.KernelIdeal.Frame
public import Idealize.ShloMosaic.Lib.Pipeline.ValueKit

@[expose] public section

set_option maxRecDepth 16384

noncomputable section

namespace Cert.Vit.K0

open Idealize.ShloMosaic Idealize.ShloMosaic.TcCoe Cert.KernelIdeal Cert.KernelIdeal.Gen

variable (x0 : Vec Ideal S512x3072 .bf16) (x1 x2 : Vec Ideal S1x3072 .f32) (x3 : Vec Ideal S3072x4608 .fp8e4m3)
  (x4 x5 : Vec Ideal S1x4608 .f32) (r : Fin 512)

theorem pay9_eq : k0_pay9 x0 x1 x2 x3 x4 x5 = k0_pay2 x0 x1 x2 := by
  unfold k0_pay9
  frame_out

theorem pay10_eq : k0_pay10 x0 x1 x2 x3 x4 x5 = k0_pay3 x0 x1 x2 := by
  unfold k0_pay10
  frame_out

theorem pay11_eq : k0_pay11 x0 x1 x2 x3 x4 x5 = k0_pay4 := rfl

/-- The layer norm of a token. -/
theorem row_eq : (fun k => k0_pay2 x0 x1 x2 (ix2 r k)) = (layernorm (fun k => x0 (ix2 r k)) (fun k => x1 (ix2 0 k)) (fun k => x2 (ix2 0 k))) := by
  funext j
  exact ln_at x0 x1 x2 r j

/-- The codes of a token. -/
theorem codes_at (j : Fin 3072) :
    k0_pay7 (k0_pay9 x0 x1 x2 x3 x4 x5) (k0_pay10 x0 x1 x2 x3 x4 x5) (k0_pay11 x0 x1 x2 x3 x4 x5) (ix2 r j) = codes (layernorm (fun k => x0 (ix2 r k)) (fun k => x1 (ix2 0 k)) (fun k => x2 (ix2 0 k))) j := by
  rw [pay9_eq, pay10_eq, pay11_eq, code_at, count_at]
  exact (codes_eq (fun k => k0_pay2 x0 x1 x2 (ix2 r k)) j).trans (by rw [row_eq])

/-- The scale of a token. -/
theorem row_scale_at : k0_pay6 (F := Ideal) (k0_pay10 x0 x1 x2 x3 x4 x5) (k0_pay11 x0 x1 x2 x3 x4 x5) (ix2 r 0) = scale (layernorm (fun k => x0 (ix2 r k)) (fun k => x1 (ix2 0 k)) (fun k => x2 (ix2 0 k))) := by
  rw [pay10_eq, pay11_eq, scale_at, count_at]
  exact (scale_eq _).trans (by rw [row_eq])

theorem out6_at (j : Fin 4608) : out0_6 (F := Ideal) x0 x1 x2 x3 x4 x5 (ix2 r j)
    = linear (layernorm (fun k => x0 (ix2 r k)) (fun k => x1 (ix2 0 k)) (fun k => x2 (ix2 0 k))) (fun k j => x3 (ix2 k j)) (fun j => x4 (ix2 0 j)) (fun j => x5 (ix2 0 j)) j := by
  frame_out
  rw [linear_at, row_scale_at]
  simp only [codes_at]
  rfl

theorem out7_at (j : Fin 3072) : out0_7 (F := Ideal) x0 x1 x2 x3 x4 x5 (ix2 r j) = codes (layernorm (fun k => x0 (ix2 r k)) (fun k => x1 (ix2 0 k)) (fun k => x2 (ix2 0 k))) j := by
  frame_out
  exact codes_at x0 x1 x2 x3 x4 x5 r j

theorem out8_at : out0_8 (F := Ideal) x0 x1 x2 x3 x4 x5 (ix2 r 0) = scale (layernorm (fun k => x0 (ix2 r k)) (fun k => x1 (ix2 0 k)) (fun k => x2 (ix2 0 k))) := by
  frame_out
  exact row_scale_at x0 x1 x2 x3 x4 x5 r

end Cert.Vit.K0
-- ==== Proof.Region0.lean ====
/- The first call over its whole arrays. -/
module

public import proofs.«01_k».proof.Proof.Kernel0Out

@[expose] public section

set_option maxRecDepth 16384

noncomputable section

namespace Cert.Vit.K0

open Idealize.ShloMosaic Idealize.ShloMosaic.TcCoe Cert.KernelIdeal Cert.KernelIdeal.Gen

variable (V : (c : Dev nD) → (b : Ref sig .tc) → Buf (Elt Ideal) ((c : Thread nD τ).loc b)) (c : Dev nD) (a : Args)

/-- What the first call finds in its arrays: the layer's arguments. -/
structure In0 : Prop where
  x : ∀ r k, (V c main_v0 : Vec Ideal S6144x3072 .bf16) (ix2 r k) = a.x (K.tb r) (K.ts r) k
  g1 : ∀ k, (V c main_v1 : Vec Ideal S1x3072 .f32) (ix2 0 k) = a.g1 k
  b1 : ∀ k, (V c main_v2 : Vec Ideal S1x3072 .f32) (ix2 0 k) = a.b1 k
  w : ∀ k j, (V c main_arg4 : Vec Ideal S3072x4608 .fp8e4m3) (ix2 k j) = a.wqkv k j
  s : ∀ j, (V c main_v3 : Vec Ideal S1x4608 .f32) (ix2 0 j) = a.sqkv j
  b : ∀ j, (V c main_v4 : Vec Ideal S1x4608 .f32) (ix2 0 j) = a.bqkv j

/-- The row of the whole array that is row `r` of block `t`. -/
def rowOf (t : Fin cfg0.N) (r : Fin 512) : Fin 6144 := ⟨t.val * 512 + r.val, by
  have h : t.val < 12 := lt_of_lt_of_eq t.isLt N_0
  omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

theorem blk0 (t : Fin cfg0.N) (r : Fin 512) (k : Fin 3072) : (iblk0 V c 0 t : Vec Ideal S512x3072 .bf16) (ix2 r k)
    = (V c main_v0 : Vec Ideal S6144x3072 .bf16) (ix2 (rowOf t r) k) := by
  blk_ext [iblk0, idx0 t, rowOf]

theorem blk1 (t : Fin cfg0.N) : (iblk0 V c 1 t : Vec Ideal S1x3072 .f32) = V c main_v1 := by
  blk_ext! [iblk0, idx1 t]

theorem blk2 (t : Fin cfg0.N) : (iblk0 V c 2 t : Vec Ideal S1x3072 .f32) = V c main_v2 := by
  blk_ext! [iblk0, idx2 t]

theorem blk3 (t : Fin cfg0.N) : (iblk0 V c 3 t : Vec Ideal S3072x4608 .fp8e4m3) = V c main_arg4 := by
  blk_ext! [iblk0, idx3 t]

theorem blk4 (t : Fin cfg0.N) : (iblk0 V c 4 t : Vec Ideal S1x4608 .f32) = V c main_v3 := by
  blk_ext! [iblk0, idx4 t]

theorem blk5 (t : Fin cfg0.N) : (iblk0 V c 5 t : Vec Ideal S1x4608 .f32) = V c main_v4 := by
  blk_ext! [iblk0, idx5 t]

variable {V c a}

theorem blockOut6 (h : In0 V c a) (t : Fin cfg0.N) (r : Fin 512) (j : Fin 4608) :
    out0_6 (iblk0 V c 0 t) (iblk0 V c 1 t) (iblk0 V c 2 t) (iblk0 V c 3 t) (iblk0 V c 4 t) (iblk0 V c 5 t) (ix2 r j)
      = K.flat a.qkv (ix2 (rowOf t r) j) := by
  refine (out6_at ..).trans ?_
  simp only [blk0, blk1, blk2, blk3, blk4, blk5, h.x, h.g1, h.b1, h.w, h.s, h.b]
  rfl

theorem arr6 (h : In0 V c a) : (dat0 V c).arrAt 6 cfg0.N = K.flat a.qkv := by
  refine (dat0 V c).arrAt_eq_of_covers 6 _ (by decide +kernel) fun t _ y => ?_
  blk_simp
  rw [after0_6, K.eta2 (a := 512) (b := 4608) y]
  refine (blockOut6 h t _ _).trans ?_
  refine congrArg (K.flat a.qkv) ?_
  blk_ext [idx6 t, rowOf]

theorem blockOut7 (h : In0 V c a) (t : Fin cfg0.N) (r : Fin 512) (j : Fin 3072) :
    out0_7 (iblk0 V c 0 t) (iblk0 V c 1 t) (iblk0 V c 2 t) (iblk0 V c 3 t) (iblk0 V c 4 t) (iblk0 V c 5 t) (ix2 r j)
      = K.flat (fun b s => codes (a.a1 b s)) (ix2 (rowOf t r) j) := by
  refine (out7_at ..).trans ?_
  simp only [blk0, blk1, blk2, blk3, blk4, blk5, h.x, h.g1, h.b1, h.w, h.s, h.b]
  rfl

theorem arr7 (h : In0 V c a) : (dat0 V c).arrAt 7 cfg0.N = K.flat (fun b s => codes (a.a1 b s)) := by
  refine (dat0 V c).arrAt_eq_of_covers 7 _ (by decide +kernel) fun t _ y => ?_
  blk_simp
  rw [after0_7, K.eta2 (a := 512) (b := 3072) y]
  refine (blockOut7 h t _ _).trans ?_
  refine congrArg (K.flat (fun b s => codes (a.a1 b s))) ?_
  blk_ext [idx7 t, rowOf]

theorem blockOut8 (h : In0 V c a) (t : Fin cfg0.N) (r : Fin 512) (j : Fin 1) :
    out0_8 (iblk0 V c 0 t) (iblk0 V c 1 t) (iblk0 V c 2 t) (iblk0 V c 3 t) (iblk0 V c 4 t) (iblk0 V c 5 t) (ix2 r j)
      = K.flat (fun b s (_ : Fin 1) => scale (a.a1 b s)) (ix2 (rowOf t r) j) := by
  obtain rfl : j = 0 := Subsingleton.elim _ _
  refine (out8_at ..).trans ?_
  simp only [blk0, blk1, blk2, blk3, blk4, blk5, h.x, h.g1, h.b1, h.w, h.s, h.b]
  rfl

theorem arr8 (h : In0 V c a) : (dat0 V c).arrAt 8 cfg0.N = K.flat (fun b s (_ : Fin 1) => scale (a.a1 b s)) := by
  refine (dat0 V c).arrAt_eq_of_covers 8 _ (by decide +kernel) fun t _ y => ?_
  blk_simp
  rw [after0_8, K.eta2 (a := 512) (b := 1) y]
  refine (blockOut8 h t _ _).trans ?_
  refine congrArg (K.flat (fun b s (_ : Fin 1) => scale (a.a1 b s))) ?_
  blk_ext [idx8 t, rowOf]

end Cert.Vit.K0
-- ==== Proof.Kernel1.lean ====
/- The attention kernel's tiles. -/
module

public import proofs.«01_k».proof.Proof.Spec
public import proofs.«01_k».proof.Proof.Gen.KernelIdeal.Skeleton

@[expose] public section

set_option maxRecDepth 16384

noncomputable section

namespace Cert.Vit.K1

open Idealize.ShloMosaic Cert.KernelIdeal Cert.KernelIdeal.Gen

variable (v0 : Vec Ideal S1x1x1536 .i32) (v2 v4 : Vec Ideal S1x1536x96 .bf16) (q : Vec Ideal S1x256x96 .bf16)
  (sg : Vec Ideal S1x256x1 .i32)

theorem select_eq {α : Type} (a b : BitVec 32) (x y : α) :
    Scalar.select (IntOp.cmpi .eq a b) x y = if a = b then x else y := by
  by_cases h : a = b
  · simp [Scalar.select, IntOp.cmpi, h]
  · have e : (a == b) = false := by simpa using h
    simp [Scalar.select, IntOp.cmpi, h, e]

/-- One tile: the attention of 256 queries of one head. -/
theorem attn_at (i : Fin 256) (d : Fin 96) : k1_pay5 v0 v2 v4 q sg (ix3 0 i d)
    = attend (fun d => q (ix3 0 i d)) (fun k d => v2 (ix3 0 k d)) (fun k d => v4 (ix3 0 k d)) (sg (ix3 0 i 0))
        (fun k => v0 (ix3 0 0 k)) d := by
  pointwise [k1_pay5, k1_pay2, k1_pay3, k1_pay4]
  simp only [select_eq]
  rfl

/-! The other tiles are the same function; the body writes it in pieces cut at different places. -/

theorem tile4 : k1_pay6 (k1_pay2 v0) (k1_pay3 v2) (k1_pay4 v4) q sg = k1_pay5 v0 v2 v4 q sg := rfl
theorem tile6 : k1_pay9 (k1_pay4 v4) (k1_pay7 (k1_pay3 v2) q) (k1_pay8 (k1_pay2 v0) sg) (Scalar.ofBits .f32 0xFF800000#32) = k1_pay5 v0 v2 v4 q sg := rfl
theorem tile8 : k1_pay11 (k1_pay10 (k1_pay2 v0) (k1_pay3 v2) (k1_pay4 v4) q sg) = k1_pay5 v0 v2 v4 q sg := rfl
theorem tile10 : k1_pay12 (k1_pay2 v0) (k1_pay3 v2) (k1_pay4 v4) q sg = k1_pay5 v0 v2 v4 q sg := rfl
theorem tile12 : k1_pay14 (k1_pay2 v0) (k1_pay4 v4) (k1_pay13 (k1_pay3 v2) q) sg = k1_pay5 v0 v2 v4 q sg := rfl
theorem tile15 : k1_pay18 (k1_pay16 v4) (k1_pay17 (k1_pay2 v0) v2 q sg) = k1_pay5 v0 v2 v4 q sg := rfl
theorem tile16 : k1_pay20 (k1_pay19 (k1_pay2 v0) (k1_pay15 v2) (k1_pay16 v4) q sg) = k1_pay5 v0 v2 v4 q sg := rfl
theorem tile17 : k1_pay21 (k1_pay2 v0) (k1_pay15 v2) (k1_pay16 v4) q sg = k1_pay5 v0 v2 v4 q sg := rfl
theorem tile18 : k1_pay24 (k1_pay2 v0) (k1_pay16 v4) (k1_pay22 (k1_pay15 v2) q) (k1_pay23 sg) = k1_pay5 v0 v2 v4 q sg := rfl
theorem tile19 : k1_pay26 (k1_pay16 v4) (k1_pay25 (k1_pay2 v0) (k1_pay15 v2) q sg) = k1_pay5 v0 v2 v4 q sg := rfl
theorem tile20 : k1_pay27 (k1_pay2 v0) (k1_pay15 v2) (k1_pay16 v4) q sg = k1_pay5 v0 v2 v4 q sg := rfl
theorem tile22 : k1_pay30 (k1_pay2 v0) (k1_pay28 v2) v4 q sg = k1_pay5 v0 v2 v4 q sg := rfl
theorem tile23 : k1_pay34 (k1_pay29 v4) (k1_pay31 (k1_pay28 v2) q) (k1_pay32 sg) (k1_pay33 (k1_pay2 v0)) = k1_pay5 v0 v2 v4 q sg := rfl
theorem tile24 : k1_pay36 (k1_pay35 (k1_pay2 v0) (k1_pay28 v2) (k1_pay29 v4) q sg) = k1_pay5 v0 v2 v4 q sg := rfl
theorem tile25 : k1_pay37 (k1_pay2 v0) (k1_pay28 v2) (k1_pay29 v4) q sg = k1_pay5 v0 v2 v4 q sg := rfl
theorem tile26 : k1_pay39 (k1_pay2 v0) (k1_pay29 v4) (k1_pay38 (k1_pay28 v2) q) sg = k1_pay5 v0 v2 v4 q sg := rfl
theorem tile27 : k1_pay42 (k1_pay29 v4) (k1_pay40 (k1_pay2 v0) (k1_pay28 v2) q sg) (k1_pay41 (k1_pay2 v0) (k1_pay28 v2) q sg) = k1_pay5 v0 v2 v4 q sg := rfl
theorem tile29 : k1_pay46 (k1_pay45 (k1_pay2 v0) v2 v4 q sg) = k1_pay5 v0 v2 v4 q sg := rfl
theorem tile30 : k1_pay47 (k1_pay2 v0) (k1_pay43 v2) (k1_pay44 v4) q sg = k1_pay5 v0 v2 v4 q sg := rfl
theorem tile31 : k1_pay49 (k1_pay2 v0) (k1_pay44 v4) (k1_pay48 (k1_pay43 v2) q) sg = k1_pay5 v0 v2 v4 q sg := rfl
theorem tile32 : k1_pay52 (k1_pay44 v4) (k1_pay50 (k1_pay2 v0) (k1_pay43 v2) q sg) (k1_pay51 (k1_pay2 v0) (k1_pay43 v2) q sg) = k1_pay5 v0 v2 v4 q sg := rfl
theorem tile33 : k1_pay53 (k1_pay2 v0) (k1_pay43 v2) (k1_pay44 v4) q sg = k1_pay5 v0 v2 v4 q sg := rfl
theorem tile34 : k1_pay1 (k1_pay2 v0) (k1_pay44 v4) (k1_pay54 (k1_pay43 v2) q) sg = k1_pay5 v0 v2 v4 q sg := rfl

end Cert.Vit.K1
-- ==== Proof.Kernel1Out.lean ====
/- One block of the second call: four heads of one sequence, from the 24 tiles the body stores. -/
module

public import proofs.«01_k».proof.Proof.Kernel1
public import proofs.«01_k».proof.Proof.Tokens
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Vit.K1

open Idealize.ShloMosaic Idealize.ShloMosaic.TcCoe Cert.KernelIdeal Cert.KernelIdeal.Gen

variable (x0 x1 x2 : Vec Ideal S1x1536x384 .bf16) (x3 : Vec Ideal S1x1536x1 .i32) (x4 : Vec Ideal S1x1x1536 .i32)

/-- Column `d` of the head that column `l` of four heads lies in. -/
def lane (l : Fin 384) (d : Fin 96) : Fin 384 := ⟨96 * (l.val / 96) + d.val, by omega⟩

/-- The attention output of one block: four heads side by side, every query of one sequence. -/
def heads : Vec Ideal S1x1536x384 .f32 := fun i =>
  attend (fun d => x0 (ix3 (0 : Fin 1) (i 1 : Fin 1536) (lane (i 2) d))) (fun k d => x1 (ix3 (0 : Fin 1) k (lane (i 2) d)))
    (fun k d => x2 (ix3 (0 : Fin 1) k (lane (i 2) d))) (x3 (ix3 (0 : Fin 1) (i 1 : Fin 1536) (0 : Fin 1)))
    (fun k => x4 (ix3 (0 : Fin 1) (0 : Fin 1) k)) ⟨(i 2).val % 96, by omega⟩

/-- `heads` at an index, the column given as head and place. -/
theorem heads_at (s : Fin 1536) (g : ℕ) (hg : g < 4) (d : Fin 96) :
    heads x0 x1 x2 x3 x4 (ix3 (0 : Fin 1) s (⟨96 * g + d.val, by omega⟩ : Fin 384))
      = attend (fun d => x0 (ix3 (0 : Fin 1) s (⟨96 * g + d.val, by omega⟩ : Fin 384)))
        (fun k d => x1 (ix3 (0 : Fin 1) k (⟨96 * g + d.val, by omega⟩ : Fin 384)))
        (fun k d => x2 (ix3 (0 : Fin 1) k (⟨96 * g + d.val, by omega⟩ : Fin 384)))
        (x3 (ix3 (0 : Fin 1) s (0 : Fin 1))) (fun k => x4 (ix3 (0 : Fin 1) (0 : Fin 1) k)) d := by
  have e : ∀ t : Fin 96, lane (⟨96 * g + d.val, by omega⟩ : Fin 384) t = ⟨96 * g + t.val, by omega⟩ := fun t => by
    apply Fin.ext
    simp only [lane]
    omega
  have f : (⟨(96 * g + d.val) % 96, by omega⟩ : Fin 96) = d := by
    apply Fin.ext
    simp only
    omega
  have u : heads x0 x1 x2 x3 x4 (ix3 (0 : Fin 1) s (⟨96 * g + d.val, by omega⟩ : Fin 384))
      = attend (fun t => x0 (ix3 (0 : Fin 1) s (lane (⟨96 * g + d.val, by omega⟩ : Fin 384) t)))
        (fun k t => x1 (ix3 (0 : Fin 1) k (lane (⟨96 * g + d.val, by omega⟩ : Fin 384) t)))
        (fun k t => x2 (ix3 (0 : Fin 1) k (lane (⟨96 * g + d.val, by omega⟩ : Fin 384) t)))
        (x3 (ix3 (0 : Fin 1) s (0 : Fin 1))) (fun k => x4 (ix3 (0 : Fin 1) (0 : Fin 1) k)) ⟨(96 * g + d.val) % 96, by omega⟩ := rfl
  rw [u, f]
  simp only [e]

/-- One tile of 256 queries from `o` on, the columns of head `g`, is that part of `heads`. -/
theorem piece_at (o g : ℕ) (ho : o ≤ 1280) (hg : g < 4)
    (iq : ∀ a, (![0, o, 96 * g] : Fin 3 → ℕ) a + S1x256x96.size a ≤ S1x1536x384.size a)
    (ik : ∀ a, (![0, 0, 96 * g] : Fin 3 → ℕ) a + S1x1536x96.size a ≤ S1x1536x384.size a)
    (is : ∀ a, (![0, o, 0] : Fin 3 → ℕ) a + S1x256x1.size a ≤ S1x1536x1.size a) (i : Fin 256) (d : Fin 96) :
    k1_pay5 (F := Ideal) (View.ld x4 r1_0) (View.ld x1 (Rect.unit (s := S1x1536x384) ![0, 0, 96 * g] S1x1536x96.size ik))
      (View.ld x2 (Rect.unit (s := S1x1536x384) ![0, 0, 96 * g] S1x1536x96.size ik))
      (View.ld x0 (Rect.unit (s := S1x1536x384) ![0, o, 96 * g] S1x256x96.size iq))
      (View.ld x3 (Rect.unit (s := S1x1536x1) ![0, o, 0] S1x256x1.size is)) (ix3 (0 : Fin 1) i d)
      = heads x0 x1 x2 x3 x4 (ix3 (0 : Fin 1) (⟨o + i.val, by omega⟩ : Fin 1536) (⟨96 * g + d.val, by omega⟩ : Fin 384)) := by
  rw [heads_at x0 x1 x2 x3 x4 _ g hg d, attn_at]
  have q : (fun d => View.ld x0 (Rect.unit (s := S1x1536x384) ![0, o, 96 * g] S1x256x96.size iq) (ix3 (0 : Fin 1) i d))
      = fun d : Fin 96 => x0 (ix3 (0 : Fin 1) (⟨o + i.val, by omega⟩ : Fin 1536) (⟨96 * g + d.val, by omega⟩ : Fin 384)) :=
    funext fun d => View.ld_unit_apply_of x0 _ _ iq _ _ fun a => by fin_cases a <;> rfl
  have k (X : Vec Ideal S1x1536x384 .bf16) : (fun k d => View.ld X (Rect.unit (s := S1x1536x384) ![0, 0, 96 * g] S1x1536x96.size ik) (ix3 (0 : Fin 1) k d))
      = fun (k : Fin 1536) (d : Fin 96) => X (ix3 (0 : Fin 1) k (⟨96 * g + d.val, by omega⟩ : Fin 384)) :=
    funext fun k => funext fun d => View.ld_unit_apply_of X _ _ ik _ _ fun a => by
      fin_cases a
      · rfl
      · exact (Nat.zero_add _).symm
      · rfl
  have s : View.ld x3 (Rect.unit (s := S1x1536x1) ![0, o, 0] S1x256x1.size is) (ix3 (0 : Fin 1) i (0 : Fin 1))
      = x3 (ix3 (0 : Fin 1) (⟨o + i.val, by omega⟩ : Fin 1536) (0 : Fin 1)) :=
    View.ld_unit_apply_of x3 _ _ is _ _ fun a => by fin_cases a <;> rfl
  have w : (fun k => View.ld x4 r1_0 (ix3 (0 : Fin 1) (0 : Fin 1) k)) = fun k : Fin 1536 => x4 (ix3 (0 : Fin 1) (0 : Fin 1) k) :=
    funext fun k => View.ld_unit_apply_of x4 _ _ _ _ _ fun a => by
      fin_cases a
      · rfl
      · rfl
      · exact (Nat.zero_add _).symm
  exact (congr (congr (congr (congr (congr (congrArg attend q) (k x1)) (k x2)) s) w) rfl)

/-- The same at a tile's own index. -/
theorem piece (o l g : ℕ) (ho : o ≤ 1280) (hg : g < 4) (hl : l = 96 * g)
    (iq : ∀ a, (![0, o, l] : Fin 3 → ℕ) a + S1x256x96.size a ≤ S1x1536x384.size a)
    (ik : ∀ a, (![0, 0, l] : Fin 3 → ℕ) a + S1x1536x96.size a ≤ S1x1536x384.size a)
    (is : ∀ a, (![0, o, 0] : Fin 3 → ℕ) a + S1x256x1.size a ≤ S1x1536x1.size a) (x : S1x256x96.Idx) :
    k1_pay5 (F := Ideal) (View.ld x4 r1_0) (View.ld x1 (Rect.unit (s := S1x1536x384) ![0, 0, l] S1x1536x96.size ik))
      (View.ld x2 (Rect.unit (s := S1x1536x384) ![0, 0, l] S1x1536x96.size ik))
      (View.ld x0 (Rect.unit (s := S1x1536x384) ![0, o, l] S1x256x96.size iq))
      (View.ld x3 (Rect.unit (s := S1x1536x1) ![0, o, 0] S1x256x1.size is)) x
      = heads x0 x1 x2 x3 x4 ((Rect.unit (s := S1x1536x384) ![0, o, l] S1x256x96.size iq).emb x) := by
  subst hl
  have z : (x 0).val < 1 := (x 0).isLt
  have ex : x = ix3 (0 : Fin 1) (x 1 : Fin 256) (x 2 : Fin 96) := by
    funext a
    fin_cases a
    · exact Subsingleton.elim (α := Fin 1) _ _
    · rfl
    · rfl
  refine (congrArg _ ex).trans ((piece_at x0 x1 x2 x3 x4 o g ho hg iq ik is (x 1) (x 2)).trans (congrArg (heads x0 x1 x2 x3 x4) ?_))
  funext a
  apply Fin.ext
  refine Eq.trans ?_ (congrArg (_ + ·) (Nat.one_mul _)).symm
  fin_cases a
  · show 0 = 0 + (x 0).val
    omega
  · rfl
  · rfl

theorem part2 (x : S1x256x96.Idx) : k1_pay5 (F := Ideal) (View.ld x4 r1_0) (View.ld x1 r1_1) (View.ld x2 r1_1) (View.ld x0 r1_2) (View.ld x3 r1_3) x
    = heads x0 x1 x2 x3 x4 (r1_2.emb x) := piece x0 x1 x2 x3 x4 0 0 0 (by norm_num) (by norm_num) (by norm_num) _ _ _ x
theorem part4 (x : S1x256x96.Idx) : k1_pay5 (F := Ideal) (View.ld x4 r1_0) (View.ld x1 r1_1) (View.ld x2 r1_1) (View.ld x0 r1_4) (View.ld x3 r1_5) x
    = heads x0 x1 x2 x3 x4 (r1_4.emb x) := piece x0 x1 x2 x3 x4 256 0 0 (by norm_num) (by norm_num) (by norm_num) _ _ _ x
theorem part6 (x : S1x256x96.Idx) : k1_pay5 (F := Ideal) (View.ld x4 r1_0) (View.ld x1 r1_1) (View.ld x2 r1_1) (View.ld x0 r1_6) (View.ld x3 r1_7) x
    = heads x0 x1 x2 x3 x4 (r1_6.emb x) := piece x0 x1 x2 x3 x4 512 0 0 (by norm_num) (by norm_num) (by norm_num) _ _ _ x
theorem part8 (x : S1x256x96.Idx) : k1_pay5 (F := Ideal) (View.ld x4 r1_0) (View.ld x1 r1_1) (View.ld x2 r1_1) (View.ld x0 r1_8) (View.ld x3 r1_9) x
    = heads x0 x1 x2 x3 x4 (r1_8.emb x) := piece x0 x1 x2 x3 x4 768 0 0 (by norm_num) (by norm_num) (by norm_num) _ _ _ x
theorem part10 (x : S1x256x96.Idx) : k1_pay5 (F := Ideal) (View.ld x4 r1_0) (View.ld x1 r1_1) (View.ld x2 r1_1) (View.ld x0 r1_10) (View.ld x3 r1_11) x
    = heads x0 x1 x2 x3 x4 (r1_10.emb x) := piece x0 x1 x2 x3 x4 1024 0 0 (by norm_num) (by norm_num) (by norm_num) _ _ _ x
theorem part12 (x : S1x256x96.Idx) : k1_pay5 (F := Ideal) (View.ld x4 r1_0) (View.ld x1 r1_1) (View.ld x2 r1_1) (View.ld x0 r1_12) (View.ld x3 r1_13) x
    = heads x0 x1 x2 x3 x4 (r1_12.emb x) := piece x0 x1 x2 x3 x4 1280 0 0 (by norm_num) (by norm_num) (by norm_num) _ _ _ x
theorem part15 (x : S1x256x96.Idx) : k1_pay5 (F := Ideal) (View.ld x4 r1_0) (View.ld x1 r1_14) (View.ld x2 r1_14) (View.ld x0 r1_15) (View.ld x3 r1_3) x
    = heads x0 x1 x2 x3 x4 (r1_15.emb x) := piece x0 x1 x2 x3 x4 0 96 1 (by norm_num) (by norm_num) (by norm_num) _ _ _ x
theorem part16 (x : S1x256x96.Idx) : k1_pay5 (F := Ideal) (View.ld x4 r1_0) (View.ld x1 r1_14) (View.ld x2 r1_14) (View.ld x0 r1_16) (View.ld x3 r1_5) x
    = heads x0 x1 x2 x3 x4 (r1_16.emb x) := piece x0 x1 x2 x3 x4 256 96 1 (by norm_num) (by norm_num) (by norm_num) _ _ _ x
theorem part17 (x : S1x256x96.Idx) : k1_pay5 (F := Ideal) (View.ld x4 r1_0) (View.ld x1 r1_14) (View.ld x2 r1_14) (View.ld x0 r1_17) (View.ld x3 r1_7) x
    = heads x0 x1 x2 x3 x4 (r1_17.emb x) := piece x0 x1 x2 x3 x4 512 96 1 (by norm_num) (by norm_num) (by norm_num) _ _ _ x
theorem part18 (x : S1x256x96.Idx) : k1_pay5 (F := Ideal) (View.ld x4 r1_0) (View.ld x1 r1_14) (View.ld x2 r1_14) (View.ld x0 r1_18) (View.ld x3 r1_9) x
    = heads x0 x1 x2 x3 x4 (r1_18.emb x) := piece x0 x1 x2 x3 x4 768 96 1 (by norm_num) (by norm_num) (by norm_num) _ _ _ x
theorem part19 (x : S1x256x96.Idx) : k1_pay5 (F := Ideal) (View.ld x4 r1_0) (View.ld x1 r1_14) (View.ld x2 r1_14) (View.ld x0 r1_19) (View.ld x3 r1_11) x
    = heads x0 x1 x2 x3 x4 (r1_19.emb x) := piece x0 x1 x2 x3 x4 1024 96 1 (by norm_num) (by norm_num) (by norm_num) _ _ _ x
theorem part20 (x : S1x256x96.Idx) : k1_pay5 (F := Ideal) (View.ld x4 r1_0) (View.ld x1 r1_14) (View.ld x2 r1_14) (View.ld x0 r1_20) (View.ld x3 r1_13) x
    = heads x0 x1 x2 x3 x4 (r1_20.emb x) := piece x0 x1 x2 x3 x4 1280 96 1 (by norm_num) (by norm_num) (by norm_num) _ _ _ x
theorem part22 (x : S1x256x96.Idx) : k1_pay5 (F := Ideal) (View.ld x4 r1_0) (View.ld x1 r1_21) (View.ld x2 r1_21) (View.ld x0 r1_22) (View.ld x3 r1_3) x
    = heads x0 x1 x2 x3 x4 (r1_22.emb x) := piece x0 x1 x2 x3 x4 0 192 2 (by norm_num) (by norm_num) (by norm_num) _ _ _ x
theorem part23 (x : S1x256x96.Idx) : k1_pay5 (F := Ideal) (View.ld x4 r1_0) (View.ld x1 r1_21) (View.ld x2 r1_21) (View.ld x0 r1_23) (View.ld x3 r1_5) x
    = heads x0 x1 x2 x3 x4 (r1_23.emb x) := piece x0 x1 x2 x3 x4 256 192 2 (by norm_num) (by norm_num) (by norm_num) _ _ _ x
theorem part24 (x : S1x256x96.Idx) : k1_pay5 (F := Ideal) (View.ld x4 r1_0) (View.ld x1 r1_21) (View.ld x2 r1_21) (View.ld x0 r1_24) (View.ld x3 r1_7) x
    = heads x0 x1 x2 x3 x4 (r1_24.emb x) := piece x0 x1 x2 x3 x4 512 192 2 (by norm_num) (by norm_num) (by norm_num) _ _ _ x
theorem part25 (x : S1x256x96.Idx) : k1_pay5 (F := Ideal) (View.ld x4 r1_0) (View.ld x1 r1_21) (View.ld x2 r1_21) (View.ld x0 r1_25) (View.ld x3 r1_9) x
    = heads x0 x1 x2 x3 x4 (r1_25.emb x) := piece x0 x1 x2 x3 x4 768 192 2 (by norm_num) (by norm_num) (by norm_num) _ _ _ x
theorem part26 (x : S1x256x96.Idx) : k1_pay5 (F := Ideal) (View.ld x4 r1_0) (View.ld x1 r1_21) (View.ld x2 r1_21) (View.ld x0 r1_26) (View.ld x3 r1_11) x
    = heads x0 x1 x2 x3 x4 (r1_26.emb x) := piece x0 x1 x2 x3 x4 1024 192 2 (by norm_num) (by norm_num) (by norm_num) _ _ _ x
theorem part27 (x : S1x256x96.Idx) : k1_pay5 (F := Ideal) (View.ld x4 r1_0) (View.ld x1 r1_21) (View.ld x2 r1_21) (View.ld x0 r1_27) (View.ld x3 r1_13) x
    = heads x0 x1 x2 x3 x4 (r1_27.emb x) := piece x0 x1 x2 x3 x4 1280 192 2 (by norm_num) (by norm_num) (by norm_num) _ _ _ x
theorem part29 (x : S1x256x96.Idx) : k1_pay5 (F := Ideal) (View.ld x4 r1_0) (View.ld x1 r1_28) (View.ld x2 r1_28) (View.ld x0 r1_29) (View.ld x3 r1_3) x
    = heads x0 x1 x2 x3 x4 (r1_29.emb x) := piece x0 x1 x2 x3 x4 0 288 3 (by norm_num) (by norm_num) (by norm_num) _ _ _ x
theorem part30 (x : S1x256x96.Idx) : k1_pay5 (F := Ideal) (View.ld x4 r1_0) (View.ld x1 r1_28) (View.ld x2 r1_28) (View.ld x0 r1_30) (View.ld x3 r1_5) x
    = heads x0 x1 x2 x3 x4 (r1_30.emb x) := piece x0 x1 x2 x3 x4 256 288 3 (by norm_num) (by norm_num) (by norm_num) _ _ _ x
theorem part31 (x : S1x256x96.Idx) : k1_pay5 (F := Ideal) (View.ld x4 r1_0) (View.ld x1 r1_28) (View.ld x2 r1_28) (View.ld x0 r1_31) (View.ld x3 r1_7) x
    = heads x0 x1 x2 x3 x4 (r1_31.emb x) := piece x0 x1 x2 x3 x4 512 288 3 (by norm_num) (by norm_num) (by norm_num) _ _ _ x
theorem part32 (x : S1x256x96.Idx) : k1_pay5 (F := Ideal) (View.ld x4 r1_0) (View.ld x1 r1_28) (View.ld x2 r1_28) (View.ld x0 r1_32) (View.ld x3 r1_9) x
    = heads x0 x1 x2 x3 x4 (r1_32.emb x) := piece x0 x1 x2 x3 x4 768 288 3 (by norm_num) (by norm_num) (by norm_num) _ _ _ x
theorem part33 (x : S1x256x96.Idx) : k1_pay5 (F := Ideal) (View.ld x4 r1_0) (View.ld x1 r1_28) (View.ld x2 r1_28) (View.ld x0 r1_33) (View.ld x3 r1_11) x
    = heads x0 x1 x2 x3 x4 (r1_33.emb x) := piece x0 x1 x2 x3 x4 1024 288 3 (by norm_num) (by norm_num) (by norm_num) _ _ _ x
theorem part34 (x : S1x256x96.Idx) : k1_pay5 (F := Ideal) (View.ld x4 r1_0) (View.ld x1 r1_28) (View.ld x2 r1_28) (View.ld x0 r1_34) (View.ld x3 r1_13) x
    = heads x0 x1 x2 x3 x4 (r1_34.emb x) := piece x0 x1 x2 x3 x4 1280 288 3 (by norm_num) (by norm_num) (by norm_num) _ _ _ x

/-- The block's result. -/
theorem out5_eq : out1_5 (F := Ideal) x0 x1 x2 x3 x4 = heads x0 x1 x2 x3 x4 := by
  funext y
  unfold out1_5
  refine View.canon_apply_of_pieces (heads x0 x1 x2 x3 x4) _ (View.PiecesOf.mem ?_) y (cover1_5 ..)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact (congrFun (tile34 (View.ld x4 r1_0) (View.ld x1 r1_28) (View.ld x2 r1_28) (View.ld x0 r1_34) (View.ld x3 r1_13)) x).trans (part34 x0 x1 x2 x3 x4 x)
  · exact (congrFun (tile33 (View.ld x4 r1_0) (View.ld x1 r1_28) (View.ld x2 r1_28) (View.ld x0 r1_33) (View.ld x3 r1_11)) x).trans (part33 x0 x1 x2 x3 x4 x)
  · exact (congrFun (tile32 (View.ld x4 r1_0) (View.ld x1 r1_28) (View.ld x2 r1_28) (View.ld x0 r1_32) (View.ld x3 r1_9)) x).trans (part32 x0 x1 x2 x3 x4 x)
  · exact (congrFun (tile31 (View.ld x4 r1_0) (View.ld x1 r1_28) (View.ld x2 r1_28) (View.ld x0 r1_31) (View.ld x3 r1_7)) x).trans (part31 x0 x1 x2 x3 x4 x)
  · exact (congrFun (tile30 (View.ld x4 r1_0) (View.ld x1 r1_28) (View.ld x2 r1_28) (View.ld x0 r1_30) (View.ld x3 r1_5)) x).trans (part30 x0 x1 x2 x3 x4 x)
  · exact (congrFun (tile29 (View.ld x4 r1_0) (View.ld x1 r1_28) (View.ld x2 r1_28) (View.ld x0 r1_29) (View.ld x3 r1_3)) x).trans (part29 x0 x1 x2 x3 x4 x)
  · exact (congrFun (tile27 (View.ld x4 r1_0) (View.ld x1 r1_21) (View.ld x2 r1_21) (View.ld x0 r1_27) (View.ld x3 r1_13)) x).trans (part27 x0 x1 x2 x3 x4 x)
  · exact (congrFun (tile26 (View.ld x4 r1_0) (View.ld x1 r1_21) (View.ld x2 r1_21) (View.ld x0 r1_26) (View.ld x3 r1_11)) x).trans (part26 x0 x1 x2 x3 x4 x)
  · exact (congrFun (tile25 (View.ld x4 r1_0) (View.ld x1 r1_21) (View.ld x2 r1_21) (View.ld x0 r1_25) (View.ld x3 r1_9)) x).trans (part25 x0 x1 x2 x3 x4 x)
  · exact (congrFun (tile24 (View.ld x4 r1_0) (View.ld x1 r1_21) (View.ld x2 r1_21) (View.ld x0 r1_24) (View.ld x3 r1_7)) x).trans (part24 x0 x1 x2 x3 x4 x)
  · exact (congrFun (tile23 (View.ld x4 r1_0) (View.ld x1 r1_21) (View.ld x2 r1_21) (View.ld x0 r1_23) (View.ld x3 r1_5)) x).trans (part23 x0 x1 x2 x3 x4 x)
  · exact (congrFun (tile22 (View.ld x4 r1_0) (View.ld x1 r1_21) (View.ld x2 r1_21) (View.ld x0 r1_22) (View.ld x3 r1_3)) x).trans (part22 x0 x1 x2 x3 x4 x)
  · exact (congrFun (tile20 (View.ld x4 r1_0) (View.ld x1 r1_14) (View.ld x2 r1_14) (View.ld x0 r1_20) (View.ld x3 r1_13)) x).trans (part20 x0 x1 x2 x3 x4 x)
  · exact (congrFun (tile19 (View.ld x4 r1_0) (View.ld x1 r1_14) (View.ld x2 r1_14) (View.ld x0 r1_19) (View.ld x3 r1_11)) x).trans (part19 x0 x1 x2 x3 x4 x)
  · exact (congrFun (tile18 (View.ld x4 r1_0) (View.ld x1 r1_14) (View.ld x2 r1_14) (View.ld x0 r1_18) (View.ld x3 r1_9)) x).trans (part18 x0 x1 x2 x3 x4 x)
  · exact (congrFun (tile17 (View.ld x4 r1_0) (View.ld x1 r1_14) (View.ld x2 r1_14) (View.ld x0 r1_17) (View.ld x3 r1_7)) x).trans (part17 x0 x1 x2 x3 x4 x)
  · exact (congrFun (tile16 (View.ld x4 r1_0) (View.ld x1 r1_14) (View.ld x2 r1_14) (View.ld x0 r1_16) (View.ld x3 r1_5)) x).trans (part16 x0 x1 x2 x3 x4 x)
  · exact (congrFun (tile15 (View.ld x4 r1_0) (View.ld x1 r1_14) (View.ld x2 r1_14) (View.ld x0 r1_15) (View.ld x3 r1_3)) x).trans (part15 x0 x1 x2 x3 x4 x)
  · exact (congrFun (tile12 (View.ld x4 r1_0) (View.ld x1 r1_1) (View.ld x2 r1_1) (View.ld x0 r1_12) (View.ld x3 r1_13)) x).trans (part12 x0 x1 x2 x3 x4 x)
  · exact (congrFun (tile10 (View.ld x4 r1_0) (View.ld x1 r1_1) (View.ld x2 r1_1) (View.ld x0 r1_10) (View.ld x3 r1_11)) x).trans (part10 x0 x1 x2 x3 x4 x)
  · exact (congrFun (tile8 (View.ld x4 r1_0) (View.ld x1 r1_1) (View.ld x2 r1_1) (View.ld x0 r1_8) (View.ld x3 r1_9)) x).trans (part8 x0 x1 x2 x3 x4 x)
  · exact (congrFun (tile6 (View.ld x4 r1_0) (View.ld x1 r1_1) (View.ld x2 r1_1) (View.ld x0 r1_6) (View.ld x3 r1_7)) x).trans (part6 x0 x1 x2 x3 x4 x)
  · exact (congrFun (tile4 (View.ld x4 r1_0) (View.ld x1 r1_1) (View.ld x2 r1_1) (View.ld x0 r1_4) (View.ld x3 r1_5)) x).trans (part4 x0 x1 x2 x3 x4 x)
  · exact (part2 x0 x1 x2 x3 x4 x)

end Cert.Vit.K1
-- ==== Proof.Region1.lean ====
/- The second call over its whole arrays. -/
module

public import proofs.«01_k».proof.Proof.Kernel1Out

@[expose] public section

set_option maxRecDepth 16384

noncomputable section

namespace Cert.Vit.K1

open Idealize.ShloMosaic Idealize.ShloMosaic.TcCoe Cert.KernelIdeal Cert.KernelIdeal.Gen

variable (V : (c : Dev nD) → (b : Ref sig .tc) → Buf (Elt Ideal) ((c : Thread nD τ).loc b)) (c : Dev nD) (a : Args)

/-- What the second call finds in its arrays: queries, keys and values side by side, and the segments twice. -/
structure In1 : Prop where
  qkv : ∀ b s j, (V c main_v6 : Vec Ideal S4x1536x4608 .bf16) (ix3 b s j) = a.qkv b s j
  sq : ∀ b s, (V c main_v7 : Vec Ideal S4x1536x1 .i32) (ix3 b s (0 : Fin 1)) = a.seg b s
  sk : ∀ b s, (V c main_v8 : Vec Ideal S4x1x1536 .i32) (ix3 b (0 : Fin 1) s) = a.seg b s

/-- The sequence of block `t`. -/
def seqOf (t : Fin cfg1.N) : Fin 4 := ⟨t.val / 4, by
  have h : t.val < 16 := lt_of_lt_of_eq t.isLt N_1
  omega⟩

theorem idx0 : ∀ t : Fin cfg1.N, win1_0.index t = ![t.val / 4, 0, t.val % 4] := (by decide +kernel : ∀ t : Fin grid1.N, _)
theorem idx1 : ∀ t : Fin cfg1.N, win1_1.index t = ![t.val / 4, 0, 4 + t.val % 4] := (by decide +kernel : ∀ t : Fin grid1.N, _)
theorem idx2 : ∀ t : Fin cfg1.N, win1_2.index t = ![t.val / 4, 0, 8 + t.val % 4] := (by decide +kernel : ∀ t : Fin grid1.N, _)
theorem idx3 : ∀ t : Fin cfg1.N, win1_3.index t = ![t.val / 4, 0, 0] := (by decide +kernel : ∀ t : Fin grid1.N, _)
theorem idx4 : ∀ t : Fin cfg1.N, win1_4.index t = ![t.val / 4, 0, 0] := (by decide +kernel : ∀ t : Fin grid1.N, _)
theorem idx5 : ∀ t : Fin cfg1.N, win1_5.index t = ![t.val / 4, 0, t.val % 4] := (by decide +kernel : ∀ t : Fin grid1.N, _)

theorem blk0 (t : Fin cfg1.N) (s : Fin 1536) (l : Fin 384) : (iblk1 V c 0 t : Vec Ideal S1x1536x384 .bf16) (ix3 (0 : Fin 1) s l)
    = (V c main_v6 : Vec Ideal S4x1536x4608 .bf16) (ix3 (seqOf t) s (⟨(0 + t.val % 4) * 384 + l.val, by omega⟩ : Fin 4608)) := by
  blk_ext [iblk1, idx0 t, seqOf]

theorem blk1 (t : Fin cfg1.N) (s : Fin 1536) (l : Fin 384) : (iblk1 V c 1 t : Vec Ideal S1x1536x384 .bf16) (ix3 (0 : Fin 1) s l)
    = (V c main_v6 : Vec Ideal S4x1536x4608 .bf16) (ix3 (seqOf t) s (⟨(4 + t.val % 4) * 384 + l.val, by omega⟩ : Fin 4608)) := by
  blk_ext [iblk1, idx1 t, seqOf]

theorem blk2 (t : Fin cfg1.N) (s : Fin 1536) (l : Fin 384) : (iblk1 V c 2 t : Vec Ideal S1x1536x384 .bf16) (ix3 (0 : Fin 1) s l)
    = (V c main_v6 : Vec Ideal S4x1536x4608 .bf16) (ix3 (seqOf t) s (⟨(8 + t.val % 4) * 384 + l.val, by omega⟩ : Fin 4608)) := by
  blk_ext [iblk1, idx2 t, seqOf]

theorem blk3 (t : Fin cfg1.N) (s : Fin 1536) : (iblk1 V c 3 t : Vec Ideal S1x1536x1 .i32) (ix3 (0 : Fin 1) s (0 : Fin 1))
    = (V c main_v7 : Vec Ideal S4x1536x1 .i32) (ix3 (seqOf t) s (0 : Fin 1)) := by
  blk_ext [iblk1, idx3 t, seqOf]

theorem blk4 (t : Fin cfg1.N) (s : Fin 1536) : (iblk1 V c 4 t : Vec Ideal S1x1x1536 .i32) (ix3 (0 : Fin 1) (0 : Fin 1) s)
    = (V c main_v8 : Vec Ideal S4x1x1536 .i32) (ix3 (seqOf t) (0 : Fin 1) s) := by
  blk_ext [iblk1, idx4 t, seqOf]

variable {V c a}

theorem part_0 (h : In1 V c a) (t : Fin cfg1.N) (s : Fin 1536) (l : Fin 384) (d : Fin 96) :
    (iblk1 V c 0 t : Vec Ideal S1x1536x384 .bf16) (ix3 (0 : Fin 1) s (lane l d))
      = a.head (seqOf t) s 0 ⟨(t.val % 4 * 384 + l.val) / 96, by omega⟩ d := by
  refine (blk0 V c t s (lane l d)).trans ((h.qkv _ _ _).trans (congrArg (a.qkv (seqOf t) s) (Fin.ext ?_)))
  simp only [lane, Args.col, Fin.val_zero, Fin.val_one, Fin.val_two]
  omega

theorem part_1 (h : In1 V c a) (t : Fin cfg1.N) (s : Fin 1536) (l : Fin 384) (d : Fin 96) :
    (iblk1 V c 1 t : Vec Ideal S1x1536x384 .bf16) (ix3 (0 : Fin 1) s (lane l d))
      = a.head (seqOf t) s 1 ⟨(t.val % 4 * 384 + l.val) / 96, by omega⟩ d := by
  refine (blk1 V c t s (lane l d)).trans ((h.qkv _ _ _).trans (congrArg (a.qkv (seqOf t) s) (Fin.ext ?_)))
  simp only [lane, Args.col, Fin.val_zero, Fin.val_one, Fin.val_two]
  omega

theorem part_2 (h : In1 V c a) (t : Fin cfg1.N) (s : Fin 1536) (l : Fin 384) (d : Fin 96) :
    (iblk1 V c 2 t : Vec Ideal S1x1536x384 .bf16) (ix3 (0 : Fin 1) s (lane l d))
      = a.head (seqOf t) s 2 ⟨(t.val % 4 * 384 + l.val) / 96, by omega⟩ d := by
  refine (blk2 V c t s (lane l d)).trans ((h.qkv _ _ _).trans (congrArg (a.qkv (seqOf t) s) (Fin.ext ?_)))
  simp only [lane, Args.col, Fin.val_zero, Fin.val_one, Fin.val_two]
  omega

theorem blockOut (h : In1 V c a) (t : Fin cfg1.N) (s : Fin 1536) (l : Fin 384) :
    out1_5 (iblk1 V c 0 t) (iblk1 V c 1 t) (iblk1 V c 2 t) (iblk1 V c 3 t) (iblk1 V c 4 t) (ix3 (0 : Fin 1) s l)
      = K.cube a.attn (ix3 (seqOf t) s (⟨t.val % 4 * 384 + l.val, by omega⟩ : Fin 1536)) := by
  rw [out5_eq]
  have e : (⟨(t.val % 4 * 384 + l.val) % 96, by omega⟩ : Fin 96) = ⟨l.val % 96, by omega⟩ := Fin.ext (by
    simp only
    omega)
  have u : K.cube a.attn (ix3 (seqOf t) s (⟨t.val % 4 * 384 + l.val, by omega⟩ : Fin 1536))
      = attend (fun d => a.head (seqOf t) s 0 ⟨(t.val % 4 * 384 + l.val) / 96, by omega⟩ d)
        (fun k d => a.head (seqOf t) k 1 ⟨(t.val % 4 * 384 + l.val) / 96, by omega⟩ d)
        (fun k d => a.head (seqOf t) k 2 ⟨(t.val % 4 * 384 + l.val) / 96, by omega⟩ d)
        (a.seg (seqOf t) s) (fun k => a.seg (seqOf t) k) ⟨(t.val % 4 * 384 + l.val) % 96, by omega⟩ := rfl
  rw [u, e]
  have q : (fun d => a.head (seqOf t) s 0 ⟨(t.val % 4 * 384 + l.val) / 96, by omega⟩ d)
      = fun d => (iblk1 V c 0 t : Vec Ideal S1x1536x384 .bf16) (ix3 (0 : Fin 1) s (lane l d)) :=
    funext fun d => (part_0 h t s l d).symm
  have k : (fun k d => a.head (seqOf t) k 1 ⟨(t.val % 4 * 384 + l.val) / 96, by omega⟩ d)
      = fun k d => (iblk1 V c 1 t : Vec Ideal S1x1536x384 .bf16) (ix3 (0 : Fin 1) k (lane l d)) :=
    funext fun k => funext fun d => (part_1 h t k l d).symm
  have v : (fun k d => a.head (seqOf t) k 2 ⟨(t.val % 4 * 384 + l.val) / 96, by omega⟩ d)
      = fun k d => (iblk1 V c 2 t : Vec Ideal S1x1536x384 .bf16) (ix3 (0 : Fin 1) k (lane l d)) :=
    funext fun k => funext fun d => (part_2 h t k l d).symm
  have w : a.seg (seqOf t) s = (iblk1 V c 3 t : Vec Ideal S1x1536x1 .i32) (ix3 (0 : Fin 1) s (0 : Fin 1)) :=
    ((blk3 V c t s).trans (h.sq _ _)).symm
  have z : (fun k => a.seg (seqOf t) k) = fun k => (iblk1 V c 4 t : Vec Ideal S1x1x1536 .i32) (ix3 (0 : Fin 1) (0 : Fin 1) k) :=
    funext fun k => ((blk4 V c t k).trans (h.sk _ _)).symm
  rw [q, k, v, w, z]
  rfl

theorem arr5 (h : In1 V c a) : (dat1 V c).arrAt 5 cfg1.N = K.cube a.attn := by
  refine (dat1 V c).arrAt_eq_of_covers 5 _ (by decide +kernel) fun t _ y => ?_
  blk_simp
  have e : y = ix3 (0 : Fin 1) (y 1 : Fin 1536) (y 2 : Fin 384) := by
    funext k
    fin_cases k
    · exact Subsingleton.elim (α := Fin 1) _ _
    · rfl
    · rfl
  rw [after1_5, e]
  refine (blockOut h t _ _).trans ?_
  refine congrArg (K.cube a.attn) ?_
  blk_ext [idx5 t, seqOf]

end Cert.Vit.K1
-- ==== Proof.Kernel2o.lean ====
/- The third call of the kernel on one block of 256 tokens: quantising the attention output. -/
module

public import proofs.«01_k».proof.Proof.Scale
public import proofs.«01_k».proof.Proof.Gen.KernelIdeal.Skeleton

@[expose] public section

set_option maxRecDepth 16384

noncomputable section

namespace Cert.Vit.K2

open Idealize.ShloMosaic Cert.KernelIdeal Cert.KernelIdeal.Gen

variable (o : Vec Ideal S256x1536 .f32) (r : Fin 256)

theorem in_at (j : Fin 1536) : k2_pay1 o (ix2 r j) = o (ix2 r j) := by
  pointwise [k2_pay1]

theorem o_field_at : k2_pay2 o (ix2 r 0) = field (count (level fun k => k2_pay1 o (ix2 r k))) := by
  pointwise [k2_pay2]
  rfl

/-- The scale of a row of attention outputs. -/
theorem o_scale_at : k2_pay3 (F := Ideal) o (ix2 r 0) = scale fun k => o (ix2 r k) := by
  have h : k2_pay3 (F := Ideal) o (ix2 r 0) = pw (IntOp.addi (k2_pay2 o (ix2 r 0)) 127#32) := by
    pointwise [k2_pay3]
  rw [h, o_field_at, scale_eq]
  simp only [in_at]

/-- The codes of a row of attention outputs. -/
theorem o_code_at (j : Fin 1536) : k2_pay4 (F := Ideal) o (ix2 r j) = codes (fun k => o (ix2 r k)) j := by
  have h : k2_pay4 (F := Ideal) o (ix2 r j) = min (f32 0x43E00000#32) (max (f32 0xC3E00000#32)
      (k2_pay1 o (ix2 r j) * pw (IntOp.subi 127#32 (k2_pay2 o (ix2 r 0))))) := by
    pointwise [k2_pay4]
  rw [h, o_field_at, codes_eq (fun k => k2_pay1 o (ix2 r k)) j]
  simp only [in_at]

end Cert.Vit.K2
-- ==== Proof.Kernel2h.lean ====
/- The third call of the kernel on one block of 256 tokens: the residual and its layer norm. -/
module

public import proofs.«01_k».proof.Proof.Scale
public import proofs.«01_k».proof.Proof.Gen.KernelIdeal.Skeleton

@[expose] public section

set_option maxRecDepth 16384

noncomputable section

namespace Cert.Vit.K2

open Idealize.ShloMosaic Cert.KernelIdeal Cert.KernelIdeal.Gen

variable (s : FVec Ideal S256x1 .f32) (c : FVec Ideal S256x1536 .fp8e4m3) (w : Vec Ideal S1536x3072 .fp8e4m3)
  (ws b : Vec Ideal S1x3072 .f32) (x : Vec Ideal S256x3072 .bf16) (r : Fin 256)

/-- The residual after attention, from the codes and the scale of the attention output. -/
theorem hidden_at (j : Fin 3072) : k2_pay5 s c w ws b x (ix2 r j)
    = x (ix2 r j) + ((∑ k : Fin 1536, c (ix2 r k) * w (ix2 k j)) * s (ix2 r 0) * ws (ix2 0 j) + b (ix2 0 j)) := by
  pointwise [k2_pay5]

theorem centred_at (j : Fin 3072) : k2_pay8 s c w ws b x (ix2 r j)
    = k2_pay5 s c w ws b x (ix2 r j) - mean fun k => k2_pay5 s c w ws b x (ix2 r k) := by
  pointwise [k2_pay8]
  rfl

theorem rsqrt_at (j : Fin 3072) : k2_pay9 s c w ws b x (ix2 r j)
    = Ideal.rsqrt (variance (fun k => k2_pay5 s c w ws b x (ix2 r k)) + f32 0x358637BD#32) := by
  have h : k2_pay9 s c w ws b x (ix2 r j) = Ideal.rsqrt (Ideal.div
      (∑ k : Fin 3072, k2_pay8 s c w ws b x (ix2 r k) * k2_pay8 s c w ws b x (ix2 r k)) (f32 0x45400000#32)
        + f32 0x358637BD#32) := by
    pointwise [k2_pay9]
  rw [h]
  simp only [centred_at]
  rfl

/-- The layer norm of the residual. -/
theorem ln_at (g d : Vec Ideal S1x3072 .f32) (j : Fin 3072) :
    k2_pay10 (k2_pay6 g) (k2_pay7 d) (k2_pay8 s c w ws b x) (k2_pay9 s c w ws b x) (ix2 r j)
      = layernorm (fun k => k2_pay5 s c w ws b x (ix2 r k)) (fun k => g (ix2 0 k)) (fun k => d (ix2 0 k)) j := by
  have h : k2_pay10 (k2_pay6 g) (k2_pay7 d) (k2_pay8 s c w ws b x) (k2_pay9 s c w ws b x) (ix2 r j)
      = k2_pay8 s c w ws b x (ix2 r j) * k2_pay9 s c w ws b x (ix2 r j) * g (ix2 0 j) + d (ix2 0 j) := by
    pointwise [k2_pay10, k2_pay6, k2_pay7]
  rw [h, centred_at, rsqrt_at]
  rfl

end Cert.Vit.K2
-- ==== Proof.Kernel2a.lean ====
/- The third call of the kernel on one block of 256 tokens: quantising the layer norm. -/
module

public import proofs.«01_k».proof.Proof.Scale
public import proofs.«01_k».proof.Proof.Gen.KernelIdeal.Skeleton

@[expose] public section

set_option maxRecDepth 16384

noncomputable section

namespace Cert.Vit.K2

open Idealize.ShloMosaic Cert.KernelIdeal Cert.KernelIdeal.Gen

variable (g d : FVec Ideal S1x3072 .f32) (v q : FVec Ideal S256x3072 .f32) (r : Fin 256)

theorem a_field_at : k2_pay11 g d v q (ix2 r 0) = field (count (level fun k => k2_pay10 g d v q (ix2 r k))) := by
  pointwise [k2_pay11]
  rfl

/-- The scale of a row of the layer norm. -/
theorem a_scale_at : k2_pay12 (F := Ideal) g d v q (ix2 r 0) = scale fun k => k2_pay10 g d v q (ix2 r k) := by
  have h : k2_pay12 (F := Ideal) g d v q (ix2 r 0) = pw (IntOp.addi (k2_pay11 g d v q (ix2 r 0)) 127#32) := by
    pointwise [k2_pay12]
  rw [h, a_field_at, scale_eq]

/-- The codes of a row of the layer norm. -/
theorem a_code_at (j : Fin 3072) :
    k2_pay13 (F := Ideal) g d v q (ix2 r j) = codes (fun k => k2_pay10 g d v q (ix2 r k)) j := by
  have h : k2_pay13 (F := Ideal) g d v q (ix2 r j) = min (f32 0x43E00000#32) (max (f32 0xC3E00000#32)
      (k2_pay10 g d v q (ix2 r j) * pw (IntOp.subi 127#32 (k2_pay11 g d v q (ix2 r 0))))) := by
    pointwise [k2_pay13]
  rw [h, a_field_at, codes_eq (fun k => k2_pay10 g d v q (ix2 r k)) j]

end Cert.Vit.K2
-- ==== Proof.Kernel2g.lean ====
/- The third call of the kernel on one block of 256 tokens: the activation, and its quantisation. -/
module

public import proofs.«01_k».proof.Proof.Scale
public import proofs.«01_k».proof.Proof.Gen.KernelIdeal.Skeleton

@[expose] public section

set_option maxRecDepth 16384

noncomputable section

namespace Cert.Vit.K2

open Idealize.ShloMosaic Cert.KernelIdeal Cert.KernelIdeal.Gen

section
variable (s : FVec Ideal S256x1 .f32) (c : FVec Ideal S256x3072 .fp8e4m3) (w : Vec Ideal S3072x4096 .fp8e4m3)
  (ws b : Vec Ideal S1x4096 .f32) (r : Fin 256)

/-- The activation, from the codes and the scale of the layer norm. -/
theorem act_at (j : Fin 4096) : k2_pay14 s c w ws b (ix2 r j)
    = gelu ((∑ k : Fin 3072, c (ix2 r k) * w (ix2 k j)) * s (ix2 r 0) * ws (ix2 0 j) + b (ix2 0 j)) := by
  pointwise [k2_pay14]
  rfl

theorem g_count_at : k2_pay15 s c w ws b (ix2 r 0)
    = IntOp.subi (count (level fun k => k2_pay14 s c w ws b (ix2 r k))) 1#32 := by
  pointwise [k2_pay15]
  rfl

end

end Cert.Vit.K2
-- ==== Proof.Kernel2y.lean ====
/- The third call of the kernel on one block of 256 tokens: the scale and the codes of the activation, and the
   output. -/
module

public import proofs.«01_k».proof.Proof.Scale
public import proofs.«01_k».proof.Proof.Gen.KernelIdeal.Skeleton

@[expose] public section

set_option maxRecDepth 16384

noncomputable section

namespace Cert.Vit.K2

open Idealize.ShloMosaic Cert.KernelIdeal Cert.KernelIdeal.Gen

variable (f : FVec Ideal S256x4096 .f32) (n : IVec S256x1 32) (r : Fin 256)

/-- The scale of a row of the activation, its count being in `n`. -/
theorem g_scale_at (hn : n (ix2 r 0) = IntOp.subi (count (level fun k => f (ix2 r k))) 1#32) :
    k2_pay17 (F := Ideal) n 0#32 (ix2 r 0) = scale fun k => f (ix2 r k) := by
  have h : k2_pay17 (F := Ideal) n 0#32 (ix2 r 0) = pw (IntOp.addi (Scalar.select
      (IntOp.cmpi .eq (n (ix2 r 0)) 0#32) 0#32 (IntOp.subi (n (ix2 r 0)) 126#32)) 127#32) := by
    pointwise [k2_pay17, k2_pay16]
  rw [h, hn, scale_eq (fun k => f (ix2 r k))]

/-- The codes of a row of the activation, its count being in `n`. -/
theorem g_code_at (hn : n (ix2 r 0) = IntOp.subi (count (level fun k => f (ix2 r k))) 1#32) (j : Fin 4096) :
    k2_pay18 f n 0#32 (ix2 r j) = codes (fun k => f (ix2 r k)) j := by
  have h : k2_pay18 f n 0#32 (ix2 r j) = min (f32 0x43E00000#32) (max (f32 0xC3E00000#32)
      (f (ix2 r j) * pw (IntOp.subi 127#32 (Scalar.select
        (IntOp.cmpi .eq (n (ix2 r 0)) 0#32) 0#32 (IntOp.subi (n (ix2 r 0)) 126#32))))) := by
    pointwise [k2_pay18, k2_pay16]
  rw [h, hn, codes_eq (fun k => f (ix2 r k)) j]

/-- The output, from the residual and the codes and the scale of the activation. -/
theorem y_at (v : FVec Ideal S256x3072 .f32) (w : Vec Ideal S4096x3072 .fp8e4m3) (ws b : Vec Ideal S1x3072 .f32)
    (j : Fin 3072) : k2_pay19 v f n 0#32 w ws b (ix2 r j)
      = v (ix2 r j) + ((∑ k : Fin 4096, k2_pay18 f n 0#32 (ix2 r k) * w (ix2 k j))
        * k2_pay17 (F := Ideal) n 0#32 (ix2 r 0) * ws (ix2 0 j) + b (ix2 0 j)) := by
  pointwise [k2_pay19]

end Cert.Vit.K2
-- ==== Proof.Kernel2Out.lean ====
/- One block of the third call: its seven results from its input blocks. -/
module

public import proofs.«01_k».proof.Proof.Kernel2o
public import proofs.«01_k».proof.Proof.Kernel2h
public import proofs.«01_k».proof.Proof.Kernel2a
public import proofs.«01_k».proof.Proof.Kernel2g
public import proofs.«01_k».proof.Proof.Kernel2y
public import proofs.«01_k».proof.Proof.Tokens
public import proofs.«01_k».proof.Proof.Gen.KernelIdeal.Frame
public import Idealize.ShloMosaic.Lib.Pipeline.ValueKit

@[expose] public section

set_option maxRecDepth 16384

noncomputable section

namespace Cert.Vit.K2

open Idealize.ShloMosaic Idealize.ShloMosaic.TcCoe Cert.KernelIdeal Cert.KernelIdeal.Gen

variable (x0 : Vec Ideal S256x1536 .f32)
  (x1 : Vec Ideal S256x3072 .bf16)
  (x2 : Vec Ideal S1536x3072 .fp8e4m3)
  (x3 : Vec Ideal S1x3072 .f32)
  (x4 : Vec Ideal S1x3072 .f32)
  (x5 : Vec Ideal S1x3072 .f32)
  (x6 : Vec Ideal S1x3072 .f32)
  (x7 : Vec Ideal S3072x4096 .fp8e4m3)
  (x8 : Vec Ideal S1x4096 .f32)
  (x9 : Vec Ideal S1x4096 .f32)
  (x10 : Vec Ideal S4096x3072 .fp8e4m3)
  (x11 : Vec Ideal S1x3072 .f32)
  (x12 : Vec Ideal S1x3072 .f32)
variable (r : Fin 256) (a : Args) (b : Fin 4) (s : Fin 1536)

/-- Row `r` of the block is token `s` of sequence `b`, with the layer's weights. -/
structure Blk : Prop where
  o : ∀ k, x0 (ix2 r k) = a.attn b s k
  x : ∀ k, x1 (ix2 r k) = a.x b s k
  wo : ∀ k j, x2 (ix2 k j) = a.wo k j
  so : ∀ k, x3 (ix2 0 k) = a.so k
  bo : ∀ k, x4 (ix2 0 k) = a.bo k
  g2 : ∀ k, x5 (ix2 0 k) = a.g2 k
  b2 : ∀ k, x6 (ix2 0 k) = a.b2 k
  w1 : ∀ k j, x7 (ix2 k j) = a.w1 k j
  s1 : ∀ k, x8 (ix2 0 k) = a.s1 k
  c1 : ∀ k, x9 (ix2 0 k) = a.c1 k
  w2 : ∀ k j, x10 (ix2 k j) = a.w2 k j
  s2 : ∀ k, x11 (ix2 0 k) = a.s2 k
  c2 : ∀ k, x12 (ix2 0 k) = a.c2 k

theorem pay20_eq : k2_pay20 (F := Ideal) x0 x1 x2 x3 x4 x5 x6 x7 x8 x9 x10 x11 x12 = k2_pay3 x0 := by
  unfold k2_pay20
  frame_out

theorem pay21_eq : k2_pay21 (F := Ideal) x0 x1 x2 x3 x4 x5 x6 x7 x8 x9 x10 x11 x12 = k2_pay4 x0 := by
  unfold k2_pay21
  frame_out

theorem pay22_eq : k2_pay22 (F := Ideal) x0 x1 x2 x3 x4 x5 x6 x7 x8 x9 x10 x11 x12 = k2_pay6 x5 := by
  unfold k2_pay22
  frame_out

theorem pay23_eq : k2_pay23 (F := Ideal) x0 x1 x2 x3 x4 x5 x6 x7 x8 x9 x10 x11 x12 = k2_pay7 x6 := by
  unfold k2_pay23
  frame_out

theorem pay24_eq : k2_pay24 (F := Ideal) x0 x1 x2 x3 x4 x5 x6 x7 x8 x9 x10 x11 x12 = k2_pay8 (k2_pay20 x0 x1 x2 x3 x4 x5 x6 x7 x8 x9 x10 x11 x12) (k2_pay21 x0 x1 x2 x3 x4 x5 x6 x7 x8 x9 x10 x11 x12) x2 x3 x4 x1 := by
  unfold k2_pay24
  frame_out

theorem pay25_eq : k2_pay25 (F := Ideal) x0 x1 x2 x3 x4 x5 x6 x7 x8 x9 x10 x11 x12 = k2_pay9 (k2_pay20 x0 x1 x2 x3 x4 x5 x6 x7 x8 x9 x10 x11 x12) (k2_pay21 x0 x1 x2 x3 x4 x5 x6 x7 x8 x9 x10 x11 x12) x2 x3 x4 x1 := by
  unfold k2_pay25
  frame_out

theorem pay28_eq : k2_pay28 (F := Ideal) x0 x1 x2 x3 x4 x5 x6 x7 x8 x9 x10 x11 x12 = k2_pay14 (k2_pay26 x0 x1 x2 x3 x4 x5 x6 x7 x8 x9 x10 x11 x12) (k2_pay27 x0 x1 x2 x3 x4 x5 x6 x7 x8 x9 x10 x11 x12) x7 x8 x9 := by
  unfold k2_pay28
  frame_out

theorem pay29_eq : k2_pay29 (F := Ideal) x0 x1 x2 x3 x4 x5 x6 x7 x8 x9 x10 x11 x12 = k2_pay15 (k2_pay26 x0 x1 x2 x3 x4 x5 x6 x7 x8 x9 x10 x11 x12) (k2_pay27 x0 x1 x2 x3 x4 x5 x6 x7 x8 x9 x10 x11 x12) x7 x8 x9 := by
  unfold k2_pay29
  frame_out

variable {x0 x1 x2 x3 x4 x5 x6 x7 x8 x9 x10 x11 x12 r a b s}
variable (h : Blk x0 x1 x2 x3 x4 x5 x6 x7 x8 x9 x10 x11 x12 r a b s)
include h

theorem out_scale : (k2_pay20 x0 x1 x2 x3 x4 x5 x6 x7 x8 x9 x10 x11 x12) (ix2 r 0) = scale (a.attn b s) := by
  rw [pay20_eq, o_scale_at]
  exact congrArg scale (funext h.o)

theorem out_codes (j : Fin 1536) : (k2_pay21 x0 x1 x2 x3 x4 x5 x6 x7 x8 x9 x10 x11 x12) (ix2 r j) = codes (a.attn b s) j := by
  rw [pay21_eq, o_code_at]
  exact congrArg (codes · j) (funext h.o)

/-- The residual after attention. -/
theorem hidden (j : Fin 3072) : k2_pay5 (k2_pay20 x0 x1 x2 x3 x4 x5 x6 x7 x8 x9 x10 x11 x12) (k2_pay21 x0 x1 x2 x3 x4 x5 x6 x7 x8 x9 x10 x11 x12) x2 x3 x4 x1 (ix2 r j) = a.hidden b s j := by
  rw [hidden_at, out_scale h]
  simp only [out_codes h, h.wo, h.so, h.bo, h.x]
  rfl

/-- The second layer norm. -/
theorem norm : (fun k => k2_pay10 (k2_pay22 x0 x1 x2 x3 x4 x5 x6 x7 x8 x9 x10 x11 x12) (k2_pay23 x0 x1 x2 x3 x4 x5 x6 x7 x8 x9 x10 x11 x12) (k2_pay24 x0 x1 x2 x3 x4 x5 x6 x7 x8 x9 x10 x11 x12) (k2_pay25 x0 x1 x2 x3 x4 x5 x6 x7 x8 x9 x10 x11 x12) (ix2 r k)) = a.a2 b s := by
  funext j
  rw [pay22_eq, pay23_eq, pay24_eq, pay25_eq, ln_at]
  simp only [hidden h, h.g2, h.b2]
  rfl

theorem norm_scale : (k2_pay26 x0 x1 x2 x3 x4 x5 x6 x7 x8 x9 x10 x11 x12) (ix2 r 0) = scale (a.a2 b s) := by
  unfold k2_pay26
  rw [a_scale_at, norm h]

theorem norm_codes (j : Fin 3072) : (k2_pay27 x0 x1 x2 x3 x4 x5 x6 x7 x8 x9 x10 x11 x12) (ix2 r j) = codes (a.a2 b s) j := by
  unfold k2_pay27
  rw [a_code_at, norm h]

/-- The activation. -/
theorem act : (fun k => (k2_pay28 x0 x1 x2 x3 x4 x5 x6 x7 x8 x9 x10 x11 x12) (ix2 r k)) = a.act b s := by
  funext j
  rw [pay28_eq, act_at, norm_scale h]
  simp only [norm_codes h, h.w1, h.s1, h.c1]
  rfl

omit h in
theorem act_count : (k2_pay29 x0 x1 x2 x3 x4 x5 x6 x7 x8 x9 x10 x11 x12) (ix2 r 0) = IntOp.subi (count (level fun k => (k2_pay28 x0 x1 x2 x3 x4 x5 x6 x7 x8 x9 x10 x11 x12) (ix2 r k))) 1#32 := by
  rw [pay29_eq, pay28_eq, g_count_at]

theorem act_scale : k2_pay17 (F := Ideal) (k2_pay29 x0 x1 x2 x3 x4 x5 x6 x7 x8 x9 x10 x11 x12) 0#32 (ix2 r 0) = scale (a.act b s) :=
  (g_scale_at (k2_pay28 x0 x1 x2 x3 x4 x5 x6 x7 x8 x9 x10 x11 x12) (k2_pay29 x0 x1 x2 x3 x4 x5 x6 x7 x8 x9 x10 x11 x12) r act_count).trans (congrArg scale (act h))

theorem act_codes (j : Fin 4096) : k2_pay18 (k2_pay28 x0 x1 x2 x3 x4 x5 x6 x7 x8 x9 x10 x11 x12) (k2_pay29 x0 x1 x2 x3 x4 x5 x6 x7 x8 x9 x10 x11 x12) 0#32 (ix2 r j) = codes (a.act b s) j :=
  (g_code_at (k2_pay28 x0 x1 x2 x3 x4 x5 x6 x7 x8 x9 x10 x11 x12) (k2_pay29 x0 x1 x2 x3 x4 x5 x6 x7 x8 x9 x10 x11 x12) r act_count j).trans (congrArg (codes · j) (act h))

theorem out13_at (j : Fin 3072) : out2_13 (F := Ideal) x0 x1 x2 x3 x4 x5 x6 x7 x8 x9 x10 x11 x12 (ix2 r j) = a.y b s j := by
  frame_out
  rw [y_at, act_scale h, hidden h]
  simp only [act_codes h, h.w2, h.s2, h.c2]
  rfl

theorem out14_at (j : Fin 1536) : out2_14 (F := Ideal) x0 x1 x2 x3 x4 x5 x6 x7 x8 x9 x10 x11 x12 (ix2 r j) = codes (a.attn b s) j := by
  frame_out
  exact out_codes h j

theorem out15_at : out2_15 (F := Ideal) x0 x1 x2 x3 x4 x5 x6 x7 x8 x9 x10 x11 x12 (ix2 r 0) = scale (a.attn b s) := by
  frame_out
  exact out_scale h

theorem out16_at (j : Fin 3072) : out2_16 (F := Ideal) x0 x1 x2 x3 x4 x5 x6 x7 x8 x9 x10 x11 x12 (ix2 r j) = codes (a.a2 b s) j := by
  frame_out
  exact norm_codes h j

theorem out17_at : out2_17 (F := Ideal) x0 x1 x2 x3 x4 x5 x6 x7 x8 x9 x10 x11 x12 (ix2 r 0) = scale (a.a2 b s) := by
  frame_out
  exact norm_scale h

theorem out18_at (j : Fin 4096) : out2_18 (F := Ideal) x0 x1 x2 x3 x4 x5 x6 x7 x8 x9 x10 x11 x12 (ix2 r j) = codes (a.act b s) j := by
  frame_out
  exact act_codes h j

theorem out19_at : out2_19 (F := Ideal) x0 x1 x2 x3 x4 x5 x6 x7 x8 x9 x10 x11 x12 (ix2 r 0) = scale (a.act b s) := by
  frame_out
  exact act_scale h

end Cert.Vit.K2
-- ==== Proof.Region2.lean ====
/- The third call over its whole arrays. -/
module

public import proofs.«01_k».proof.Proof.Kernel2Out

@[expose] public section

set_option maxRecDepth 16384

noncomputable section

namespace Cert.Vit.K2

open Idealize.ShloMosaic Idealize.ShloMosaic.TcCoe Cert.KernelIdeal Cert.KernelIdeal.Gen

variable (V : (c : Dev nD) → (b : Ref sig .tc) → Buf (Elt Ideal) ((c : Thread nD τ).loc b)) (c : Dev nD) (a : Args)

/-- What the third call finds in its arrays: the attention output and the layer's arguments. -/
structure In2 : Prop where
  o : ∀ r k, (V c main_v10 : Vec Ideal S6144x1536 .f32) (ix2 r k) = a.attn (K.tb r) (K.ts r) k
  x : ∀ r k, (V c main_v0 : Vec Ideal S6144x3072 .bf16) (ix2 r k) = a.x (K.tb r) (K.ts r) k
  wo : ∀ k j, (V c main_arg7 : Vec Ideal S1536x3072 .fp8e4m3) (ix2 k j) = a.wo k j
  so : ∀ k, (V c main_v11 : Vec Ideal S1x3072 .f32) (ix2 0 k) = a.so k
  bo : ∀ k, (V c main_v12 : Vec Ideal S1x3072 .f32) (ix2 0 k) = a.bo k
  g2 : ∀ k, (V c main_v13 : Vec Ideal S1x3072 .f32) (ix2 0 k) = a.g2 k
  b2 : ∀ k, (V c main_v14 : Vec Ideal S1x3072 .f32) (ix2 0 k) = a.b2 k
  w1 : ∀ k j, (V c main_arg12 : Vec Ideal S3072x4096 .fp8e4m3) (ix2 k j) = a.w1 k j
  s1 : ∀ k, (V c main_v15 : Vec Ideal S1x4096 .f32) (ix2 0 k) = a.s1 k
  c1 : ∀ k, (V c main_v16 : Vec Ideal S1x4096 .f32) (ix2 0 k) = a.c1 k
  w2 : ∀ k j, (V c main_arg15 : Vec Ideal S4096x3072 .fp8e4m3) (ix2 k j) = a.w2 k j
  s2 : ∀ k, (V c main_v17 : Vec Ideal S1x3072 .f32) (ix2 0 k) = a.s2 k
  c2 : ∀ k, (V c main_v18 : Vec Ideal S1x3072 .f32) (ix2 0 k) = a.c2 k

/-- The row of the whole array that is row `r` of block `t`. -/
def rowOf (t : Fin cfg2.N) (r : Fin 256) : Fin 6144 := ⟨t.val * 256 + r.val, by
  have h : t.val < 24 := lt_of_lt_of_eq t.isLt N_2
  omega⟩

theorem idx0 : ∀ t : Fin cfg2.N, win2_0.index t = ![t.val, 0] := (by decide +kernel : ∀ t : Fin grid2.N, _)
theorem idx1 : ∀ t : Fin cfg2.N, win2_1.index t = ![t.val, 0] := (by decide +kernel : ∀ t : Fin grid2.N, _)
theorem idx2 : ∀ t : Fin cfg2.N, win2_2.index t = ![0, 0] := (by decide +kernel : ∀ t : Fin grid2.N, _)
theorem idx3 : ∀ t : Fin cfg2.N, win2_3.index t = ![0, 0] := (by decide +kernel : ∀ t : Fin grid2.N, _)
theorem idx4 : ∀ t : Fin cfg2.N, win2_4.index t = ![0, 0] := (by decide +kernel : ∀ t : Fin grid2.N, _)
theorem idx5 : ∀ t : Fin cfg2.N, win2_5.index t = ![0, 0] := (by decide +kernel : ∀ t : Fin grid2.N, _)
theorem idx6 : ∀ t : Fin cfg2.N, win2_6.index t = ![0, 0] := (by decide +kernel : ∀ t : Fin grid2.N, _)
theorem idx7 : ∀ t : Fin cfg2.N, win2_7.index t = ![0, 0] := (by decide +kernel : ∀ t : Fin grid2.N, _)
theorem idx8 : ∀ t : Fin cfg2.N, win2_8.index t = ![0, 0] := (by decide +kernel : ∀ t : Fin grid2.N, _)
theorem idx9 : ∀ t : Fin cfg2.N, win2_9.index t = ![0, 0] := (by decide +kernel : ∀ t : Fin grid2.N, _)
theorem idx10 : ∀ t : Fin cfg2.N, win2_10.index t = ![0, 0] := (by decide +kernel : ∀ t : Fin grid2.N, _)
theorem idx11 : ∀ t : Fin cfg2.N, win2_11.index t = ![0, 0] := (by decide +kernel : ∀ t : Fin grid2.N, _)
theorem idx12 : ∀ t : Fin cfg2.N, win2_12.index t = ![0, 0] := (by decide +kernel : ∀ t : Fin grid2.N, _)
theorem idx13 : ∀ t : Fin cfg2.N, win2_13.index t = ![t.val, 0] := (by decide +kernel : ∀ t : Fin grid2.N, _)
theorem idx14 : ∀ t : Fin cfg2.N, win2_14.index t = ![t.val, 0] := (by decide +kernel : ∀ t : Fin grid2.N, _)
theorem idx15 : ∀ t : Fin cfg2.N, win2_15.index t = ![t.val, 0] := (by decide +kernel : ∀ t : Fin grid2.N, _)
theorem idx16 : ∀ t : Fin cfg2.N, win2_16.index t = ![t.val, 0] := (by decide +kernel : ∀ t : Fin grid2.N, _)
theorem idx17 : ∀ t : Fin cfg2.N, win2_17.index t = ![t.val, 0] := (by decide +kernel : ∀ t : Fin grid2.N, _)
theorem idx18 : ∀ t : Fin cfg2.N, win2_18.index t = ![t.val, 0] := (by decide +kernel : ∀ t : Fin grid2.N, _)
theorem idx19 : ∀ t : Fin cfg2.N, win2_19.index t = ![t.val, 0] := (by decide +kernel : ∀ t : Fin grid2.N, _)

theorem blk0 (t : Fin cfg2.N) (r : Fin 256) (k : Fin 1536) : (iblk2 V c 0 t : Vec Ideal S256x1536 .f32) (ix2 r k)
    = (V c main_v10 : Vec Ideal S6144x1536 .f32) (ix2 (rowOf t r) k) := by
  blk_ext [iblk2, idx0 t, rowOf]

theorem blk1 (t : Fin cfg2.N) (r : Fin 256) (k : Fin 3072) : (iblk2 V c 1 t : Vec Ideal S256x3072 .bf16) (ix2 r k)
    = (V c main_v0 : Vec Ideal S6144x3072 .bf16) (ix2 (rowOf t r) k) := by
  blk_ext [iblk2, idx1 t, rowOf]

theorem blk2 (t : Fin cfg2.N) : (iblk2 V c 2 t : Vec Ideal S1536x3072 .fp8e4m3) = V c main_arg7 := by
  blk_ext! [iblk2, idx2 t]

theorem blk3 (t : Fin cfg2.N) : (iblk2 V c 3 t : Vec Ideal S1x3072 .f32) = V c main_v11 := by
  blk_ext! [iblk2, idx3 t]

theorem blk4 (t : Fin cfg2.N) : (iblk2 V c 4 t : Vec Ideal S1x3072 .f32) = V c main_v12 := by
  blk_ext! [iblk2, idx4 t]

theorem blk5 (t : Fin cfg2.N) : (iblk2 V c 5 t : Vec Ideal S1x3072 .f32) = V c main_v13 := by
  blk_ext! [iblk2, idx5 t]

theorem blk6 (t : Fin cfg2.N) : (iblk2 V c 6 t : Vec Ideal S1x3072 .f32) = V c main_v14 := by
  blk_ext! [iblk2, idx6 t]

theorem blk7 (t : Fin cfg2.N) : (iblk2 V c 7 t : Vec Ideal S3072x4096 .fp8e4m3) = V c main_arg12 := by
  blk_ext! [iblk2, idx7 t]

theorem blk8 (t : Fin cfg2.N) : (iblk2 V c 8 t : Vec Ideal S1x4096 .f32) = V c main_v15 := by
  blk_ext! [iblk2, idx8 t]

theorem blk9 (t : Fin cfg2.N) : (iblk2 V c 9 t : Vec Ideal S1x4096 .f32) = V c main_v16 := by
  blk_ext! [iblk2, idx9 t]

theorem blk10 (t : Fin cfg2.N) : (iblk2 V c 10 t : Vec Ideal S4096x3072 .fp8e4m3) = V c main_arg15 := by
  blk_ext! [iblk2, idx10 t]

theorem blk11 (t : Fin cfg2.N) : (iblk2 V c 11 t : Vec Ideal S1x3072 .f32) = V c main_v17 := by
  blk_ext! [iblk2, idx11 t]

theorem blk12 (t : Fin cfg2.N) : (iblk2 V c 12 t : Vec Ideal S1x3072 .f32) = V c main_v18 := by
  blk_ext! [iblk2, idx12 t]

variable {V c a}

/-- A block's rows are the tokens it stands for. -/
theorem block (h : In2 V c a) (t : Fin cfg2.N) (r : Fin 256) :
    Blk (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) r a (K.tb (rowOf t r)) (K.ts (rowOf t r)) where
  o := fun k => (blk0 V c t r k).trans (h.o (rowOf t r) k)
  x := fun k => (blk1 V c t r k).trans (h.x (rowOf t r) k)
  wo := fun k j => (congrFun (blk2 V c t) (ix2 k j)).trans (h.wo k j)
  so := fun k => (congrFun (blk3 V c t) (ix2 0 k)).trans (h.so k)
  bo := fun k => (congrFun (blk4 V c t) (ix2 0 k)).trans (h.bo k)
  g2 := fun k => (congrFun (blk5 V c t) (ix2 0 k)).trans (h.g2 k)
  b2 := fun k => (congrFun (blk6 V c t) (ix2 0 k)).trans (h.b2 k)
  w1 := fun k j => (congrFun (blk7 V c t) (ix2 k j)).trans (h.w1 k j)
  s1 := fun k => (congrFun (blk8 V c t) (ix2 0 k)).trans (h.s1 k)
  c1 := fun k => (congrFun (blk9 V c t) (ix2 0 k)).trans (h.c1 k)
  w2 := fun k j => (congrFun (blk10 V c t) (ix2 k j)).trans (h.w2 k j)
  s2 := fun k => (congrFun (blk11 V c t) (ix2 0 k)).trans (h.s2 k)
  c2 := fun k => (congrFun (blk12 V c t) (ix2 0 k)).trans (h.c2 k)

theorem blockOut13 (h : In2 V c a) (t : Fin cfg2.N) (r : Fin 256) (j : Fin 3072) :
    out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (ix2 r j) = K.flat a.y (ix2 (rowOf t r) j) := by
  exact out13_at (block h t r) j

theorem arr13 (h : In2 V c a) : (dat2 V c).arrAt 13 cfg2.N = K.flat a.y := by
  refine (dat2 V c).arrAt_eq_of_covers 13 _ (by decide +kernel) fun t _ y => ?_
  blk_simp
  rw [after2_13, K.eta2 (a := 256) (b := 3072) y]
  refine (blockOut13 h t _ _).trans ?_
  refine congrArg (K.flat a.y) ?_
  blk_ext [idx13 t, rowOf]

theorem blockOut14 (h : In2 V c a) (t : Fin cfg2.N) (r : Fin 256) (j : Fin 1536) :
    out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (ix2 r j) = K.flat (fun b s => codes (a.attn b s)) (ix2 (rowOf t r) j) := by
  exact out14_at (block h t r) j

theorem arr14 (h : In2 V c a) : (dat2 V c).arrAt 14 cfg2.N = K.flat (fun b s => codes (a.attn b s)) := by
  refine (dat2 V c).arrAt_eq_of_covers 14 _ (by decide +kernel) fun t _ y => ?_
  blk_simp
  rw [after2_14, K.eta2 (a := 256) (b := 1536) y]
  refine (blockOut14 h t _ _).trans ?_
  refine congrArg (K.flat (fun b s => codes (a.attn b s))) ?_
  blk_ext [idx14 t, rowOf]

theorem blockOut15 (h : In2 V c a) (t : Fin cfg2.N) (r : Fin 256) (j : Fin 1) :
    out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (ix2 r j) = K.flat (fun b s (_ : Fin 1) => scale (a.attn b s)) (ix2 (rowOf t r) j) := by
  obtain rfl : j = 0 := Subsingleton.elim _ _
  exact out15_at (block h t r)

theorem arr15 (h : In2 V c a) : (dat2 V c).arrAt 15 cfg2.N = K.flat (fun b s (_ : Fin 1) => scale (a.attn b s)) := by
  refine (dat2 V c).arrAt_eq_of_covers 15 _ (by decide +kernel) fun t _ y => ?_
  blk_simp
  rw [after2_15, K.eta2 (a := 256) (b := 1) y]
  refine (blockOut15 h t _ _).trans ?_
  refine congrArg (K.flat (fun b s (_ : Fin 1) => scale (a.attn b s))) ?_
  blk_ext [idx15 t, rowOf]

theorem blockOut16 (h : In2 V c a) (t : Fin cfg2.N) (r : Fin 256) (j : Fin 3072) :
    out2_16 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (ix2 r j) = K.flat (fun b s => codes (a.a2 b s)) (ix2 (rowOf t r) j) := by
  exact out16_at (block h t r) j

theorem arr16 (h : In2 V c a) : (dat2 V c).arrAt 16 cfg2.N = K.flat (fun b s => codes (a.a2 b s)) := by
  refine (dat2 V c).arrAt_eq_of_covers 16 _ (by decide +kernel) fun t _ y => ?_
  blk_simp
  rw [after2_16, K.eta2 (a := 256) (b := 3072) y]
  refine (blockOut16 h t _ _).trans ?_
  refine congrArg (K.flat (fun b s => codes (a.a2 b s))) ?_
  blk_ext [idx16 t, rowOf]

theorem blockOut17 (h : In2 V c a) (t : Fin cfg2.N) (r : Fin 256) (j : Fin 1) :
    out2_17 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (ix2 r j) = K.flat (fun b s (_ : Fin 1) => scale (a.a2 b s)) (ix2 (rowOf t r) j) := by
  obtain rfl : j = 0 := Subsingleton.elim _ _
  exact out17_at (block h t r)

theorem arr17 (h : In2 V c a) : (dat2 V c).arrAt 17 cfg2.N = K.flat (fun b s (_ : Fin 1) => scale (a.a2 b s)) := by
  refine (dat2 V c).arrAt_eq_of_covers 17 _ (by decide +kernel) fun t _ y => ?_
  blk_simp
  rw [after2_17, K.eta2 (a := 256) (b := 1) y]
  refine (blockOut17 h t _ _).trans ?_
  refine congrArg (K.flat (fun b s (_ : Fin 1) => scale (a.a2 b s))) ?_
  blk_ext [idx17 t, rowOf]

theorem blockOut18 (h : In2 V c a) (t : Fin cfg2.N) (r : Fin 256) (j : Fin 4096) :
    out2_18 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (ix2 r j) = K.flat (fun b s => codes (a.act b s)) (ix2 (rowOf t r) j) := by
  exact out18_at (block h t r) j

theorem arr18 (h : In2 V c a) : (dat2 V c).arrAt 18 cfg2.N = K.flat (fun b s => codes (a.act b s)) := by
  refine (dat2 V c).arrAt_eq_of_covers 18 _ (by decide +kernel) fun t _ y => ?_
  blk_simp
  rw [after2_18, K.eta2 (a := 256) (b := 4096) y]
  refine (blockOut18 h t _ _).trans ?_
  refine congrArg (K.flat (fun b s => codes (a.act b s))) ?_
  blk_ext [idx18 t, rowOf]

theorem blockOut19 (h : In2 V c a) (t : Fin cfg2.N) (r : Fin 256) (j : Fin 1) :
    out2_19 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (ix2 r j) = K.flat (fun b s (_ : Fin 1) => scale (a.act b s)) (ix2 (rowOf t r) j) := by
  obtain rfl : j = 0 := Subsingleton.elim _ _
  exact out19_at (block h t r)

theorem arr19 (h : In2 V c a) : (dat2 V c).arrAt 19 cfg2.N = K.flat (fun b s (_ : Fin 1) => scale (a.act b s)) := by
  refine (dat2 V c).arrAt_eq_of_covers 19 _ (by decide +kernel) fun t _ y => ?_
  blk_simp
  rw [after2_19, K.eta2 (a := 256) (b := 1) y]
  refine (blockOut19 h t _ _).trans ?_
  refine congrArg (K.flat (fun b s (_ : Fin 1) => scale (a.act b s))) ?_
  blk_ext [idx19 t, rowOf]

end Cert.Vit.K2
-- ==== Proof.KernelFinal.lean ====
/- The kernel's result arrays at the end of a run: each call finds what the calls before it left. -/
module

public import proofs.«01_k».proof.Proof.KernelHost
public import proofs.«01_k».proof.Proof.Region0
public import proofs.«01_k».proof.Proof.Region1
public import proofs.«01_k».proof.Proof.Region2

@[expose] public section

set_option maxRecDepth 16384

noncomputable section

namespace Cert.Vit.K

open Idealize.ShloMosaic Idealize.ShloMosaic.TcCoe Cert.KernelIdeal Cert.KernelIdeal.Gen

/-- A token's row, found by its row number. -/
theorem flat_row {n : ℕ} (f : Fin 4 → Fin 1536 → Row n) (b : Fin 4) (s : Fin 1536) (k : Fin n) :
    flat f (ix2 (row b s) k) = f b s k := by
  rw [flat_at, tb_row, ts_row]

variable (m : (ℓ : Loc nD τ sig) → Buf (Elt Ideal) ℓ) (ρ : Dev nD → PrngReg) (c : Dev nD)

/-- The layer's arguments as the device finds them. -/
def args : Args := ofArrays (m ((c.tc : Thread nD τ).loc main_arg0))
  (m ((c.tc : Thread nD τ).loc main_arg1))
  (m ((c.tc : Thread nD τ).loc main_arg2))
  (m ((c.tc : Thread nD τ).loc main_arg3))
  (m ((c.tc : Thread nD τ).loc main_arg4))
  (m ((c.tc : Thread nD τ).loc main_arg5))
  (m ((c.tc : Thread nD τ).loc main_arg6))
  (m ((c.tc : Thread nD τ).loc main_arg7))
  (m ((c.tc : Thread nD τ).loc main_arg8))
  (m ((c.tc : Thread nD τ).loc main_arg9))
  (m ((c.tc : Thread nD τ).loc main_arg10))
  (m ((c.tc : Thread nD τ).loc main_arg11))
  (m ((c.tc : Thread nD τ).loc main_arg12))
  (m ((c.tc : Thread nD τ).loc main_arg13))
  (m ((c.tc : Thread nD τ).loc main_arg14))
  (m ((c.tc : Thread nD τ).loc main_arg15))
  (m ((c.tc : Thread nD τ).loc main_arg16))
  (m ((c.tc : Thread nD τ).loc main_arg17))

/-- The first call finds the layer's arguments. -/
theorem in0 : K0.In0 (V1 m ρ) c (args m c) where
  x r k := at_v0 (W0 m ρ c) r k
  g1 k := at_v1 (W0 m ρ c) k
  b1 k := at_v2 (W0 m ρ c) k
  w k j := congrFun (W1_args m ρ c main_arg4 (by decide)) (ix2 k j)
  s k := at_v3 (W0 m ρ c) k
  b k := at_v4 (W0 m ρ c) k

theorem v5_0 : W2 m ρ c (Proc.devRef .tc main_v5_0) = flat (args m c).qkv :=
  (W2_arr m ρ c 6).trans (K0.arr6 (in0 m ρ c))

theorem v5_1 : W2 m ρ c (Proc.devRef .tc main_v5_1) = flat (fun b s => codes ((args m c).a1 b s)) :=
  (W2_arr m ρ c 7).trans (K0.arr7 (in0 m ρ c))

theorem v5_2 : W2 m ρ c (Proc.devRef .tc main_v5_2) = flat (fun b s (_ : Fin 1) => scale ((args m c).a1 b s)) :=
  (W2_arr m ρ c 8).trans (K0.arr8 (in0 m ρ c))

/-- The second call finds the first call's projections. -/
theorem in1 : K1.In1 (V3 m ρ) c (args m c) where
  qkv b s j := by
    exact (at_v6 (W2 m ρ c) b s j).trans ((congrFun (v5_0 m ρ c) _).trans (flat_row _ b s j))
  sq b s := (at_v7 (W2 m ρ c) b s).trans (congrFun (W2_args m ρ c main_arg1 (by decide)) (ix2 b s))
  sk b s := (at_v8 (W2 m ρ c) b s).trans (congrFun (W2_args m ρ c main_arg1 (by decide)) (ix2 b s))

theorem v9 : W4 m ρ c (Proc.devRef .tc main_v9) = cube (args m c).attn :=
  (W4_arr m ρ c 5).trans (K1.arr5 (in1 m ρ c))

/-- The tokens reach the third call as the first call found them. -/
theorem v0_kept : W5 m ρ c (Proc.devRef .tc main_v0) = W1 m ρ c (Proc.devRef .tc main_v0) :=
  (W5_of m ρ c main_v0 (by decide)).trans ((W4_of m ρ c main_v0 (by decide)).trans
    ((W3_of m ρ c main_v0 (by decide)).trans (W2_of m ρ c main_v0 (by decide))))

/-- The third call finds the attention output and the tokens. -/
theorem in2 : K2.In2 (V5 m ρ) c (args m c) where
  o r k := (at_v10 (W4 m ρ c) r k).trans (congrFun (v9 m ρ c) _)
  x r k := (congrFun (v0_kept m ρ c) (ix2 r k)).trans (at_v0 (W0 m ρ c) r k)
  wo k j := congrFun (W5_args m ρ c main_arg7 (by decide)) (ix2 k j)
  w1 k j := congrFun (W5_args m ρ c main_arg12 (by decide)) (ix2 k j)
  w2 k j := congrFun (W5_args m ρ c main_arg15 (by decide)) (ix2 k j)
  so k := (at_v11 (W4 m ρ c) k).trans (congrFun (W4_args m ρ c main_arg8 (by decide)) (ix1 k))
  bo k := (at_v12 (W4 m ρ c) k).trans (congrFun (W4_args m ρ c main_arg9 (by decide)) (ix1 k))
  g2 k := (at_v13 (W4 m ρ c) k).trans (congrFun (W4_args m ρ c main_arg10 (by decide)) (ix1 k))
  b2 k := (at_v14 (W4 m ρ c) k).trans (congrFun (W4_args m ρ c main_arg11 (by decide)) (ix1 k))
  s1 k := (at_v15 (W4 m ρ c) k).trans (congrFun (W4_args m ρ c main_arg13 (by decide)) (ix1 k))
  c1 k := (at_v16 (W4 m ρ c) k).trans (congrFun (W4_args m ρ c main_arg14 (by decide)) (ix1 k))
  s2 k := (at_v17 (W4 m ρ c) k).trans (congrFun (W4_args m ρ c main_arg16 (by decide)) (ix1 k))
  c2 k := (at_v18 (W4 m ρ c) k).trans (congrFun (W4_args m ρ c main_arg17 (by decide)) (ix1 k))

theorem v19_0 : W6 m ρ c (Proc.devRef .tc main_v19_0) = flat (args m c).y :=
  (W6_arr m ρ c 13).trans (K2.arr13 (in2 m ρ c))

theorem v19_1 : W6 m ρ c (Proc.devRef .tc main_v19_1) = flat (fun b s => codes ((args m c).attn b s)) :=
  (W6_arr m ρ c 14).trans (K2.arr14 (in2 m ρ c))

theorem v19_2 : W6 m ρ c (Proc.devRef .tc main_v19_2) = flat (fun b s (_ : Fin 1) => scale ((args m c).attn b s)) :=
  (W6_arr m ρ c 15).trans (K2.arr15 (in2 m ρ c))

theorem v19_3 : W6 m ρ c (Proc.devRef .tc main_v19_3) = flat (fun b s => codes ((args m c).a2 b s)) :=
  (W6_arr m ρ c 16).trans (K2.arr16 (in2 m ρ c))

theorem v19_4 : W6 m ρ c (Proc.devRef .tc main_v19_4) = flat (fun b s (_ : Fin 1) => scale ((args m c).a2 b s)) :=
  (W6_arr m ρ c 17).trans (K2.arr17 (in2 m ρ c))

theorem v19_5 : W6 m ρ c (Proc.devRef .tc main_v19_5) = flat (fun b s => codes ((args m c).act b s)) :=
  (W6_arr m ρ c 18).trans (K2.arr18 (in2 m ρ c))

theorem v19_6 : W6 m ρ c (Proc.devRef .tc main_v19_6) = flat (fun b s (_ : Fin 1) => scale ((args m c).act b s)) :=
  (W6_arr m ρ c 19).trans (K2.arr19 (in2 m ρ c))

theorem v5_1_kept : W6 m ρ c (Proc.devRef .tc main_v5_1) = W2 m ρ c (Proc.devRef .tc main_v5_1) :=
  (W6_of m ρ c main_v5_1 (by decide)).trans ((W5_of m ρ c main_v5_1 (by decide)).trans
    ((W4_of m ρ c main_v5_1 (by decide)).trans (W3_of m ρ c main_v5_1 (by decide))))

theorem v5_2_kept : W6 m ρ c (Proc.devRef .tc main_v5_2) = W2 m ρ c (Proc.devRef .tc main_v5_2) :=
  (W6_of m ρ c main_v5_2 (by decide)).trans ((W5_of m ρ c main_v5_2 (by decide)).trans
    ((W4_of m ρ c main_v5_2 (by decide)).trans (W3_of m ρ c main_v5_2 (by decide))))

theorem at_res_v20 (b : Fin 4) (s : Fin 1536) (k : Fin 3072) :
    (W7 m ρ c (Proc.devRef .tc main_v20) : Vec Ideal S4x1536x3072 .bf16) (ix3 b s k) = (args m c).yArr (ix3 b s k) :=
  (at_v20 (W6 m ρ c) b s k).trans ((congrFun (v19_0 m ρ c) _).trans (flat_row _ b s k))

theorem res_v20 : W7 m ρ c (Proc.devRef .tc main_v20) = (args m c).yArr :=
  funext fun i => by
    rw [eta3 (a := 4) (b := 1536) (n := 3072) i]
    exact at_res_v20 m ρ c _ _ _

theorem at_res_v21 (b : Fin 4) (s : Fin 1536) (k : Fin 3072) :
    (W7 m ρ c (Proc.devRef .tc main_v21) : Vec Ideal S4x1536x3072 .fp8e4m3) (ix3 b s k) = (args m c).a1Codes (ix3 b s k) :=
  (at_v21 (W6 m ρ c) b s k).trans ((congrFun ((v5_1_kept m ρ c).trans (v5_1 m ρ c)) _).trans (flat_row _ b s k))

theorem res_v21 : W7 m ρ c (Proc.devRef .tc main_v21) = (args m c).a1Codes :=
  funext fun i => by
    rw [eta3 (a := 4) (b := 1536) (n := 3072) i]
    exact at_res_v21 m ρ c _ _ _

theorem at_res_v22 (b : Fin 4) (s : Fin 1536) (k : Fin 1) :
    (W7 m ρ c (Proc.devRef .tc main_v22) : Vec Ideal S4x1536x1 .f32) (ix3 b s k) = (args m c).a1Scale (ix3 b s k) := by
  rw [Subsingleton.elim k 0]
  exact (at_v22 (W6 m ρ c) b s).trans ((congrFun ((v5_2_kept m ρ c).trans (v5_2 m ρ c)) _).trans (flat_row _ b s 0))

theorem res_v22 : W7 m ρ c (Proc.devRef .tc main_v22) = (args m c).a1Scale :=
  funext fun i => by
    rw [eta3 (a := 4) (b := 1536) (n := 1) i]
    exact at_res_v22 m ρ c _ _ _

theorem at_res_v23 (b : Fin 4) (s : Fin 1536) (k : Fin 1536) :
    (W7 m ρ c (Proc.devRef .tc main_v23) : Vec Ideal S4x1536x1536 .fp8e4m3) (ix3 b s k) = (args m c).oCodes (ix3 b s k) :=
  (at_v23 (W6 m ρ c) b s k).trans ((congrFun (v19_1 m ρ c) _).trans (flat_row _ b s k))

theorem res_v23 : W7 m ρ c (Proc.devRef .tc main_v23) = (args m c).oCodes :=
  funext fun i => by
    rw [eta3 (a := 4) (b := 1536) (n := 1536) i]
    exact at_res_v23 m ρ c _ _ _

theorem at_res_v24 (b : Fin 4) (s : Fin 1536) (k : Fin 1) :
    (W7 m ρ c (Proc.devRef .tc main_v24) : Vec Ideal S4x1536x1 .f32) (ix3 b s k) = (args m c).oScale (ix3 b s k) := by
  rw [Subsingleton.elim k 0]
  exact (at_v24 (W6 m ρ c) b s).trans ((congrFun (v19_2 m ρ c) _).trans (flat_row _ b s 0))

theorem res_v24 : W7 m ρ c (Proc.devRef .tc main_v24) = (args m c).oScale :=
  funext fun i => by
    rw [eta3 (a := 4) (b := 1536) (n := 1) i]
    exact at_res_v24 m ρ c _ _ _

theorem at_res_v25 (b : Fin 4) (s : Fin 1536) (k : Fin 3072) :
    (W7 m ρ c (Proc.devRef .tc main_v25) : Vec Ideal S4x1536x3072 .fp8e4m3) (ix3 b s k) = (args m c).a2Codes (ix3 b s k) :=
  (at_v25 (W6 m ρ c) b s k).trans ((congrFun (v19_3 m ρ c) _).trans (flat_row _ b s k))

theorem res_v25 : W7 m ρ c (Proc.devRef .tc main_v25) = (args m c).a2Codes :=
  funext fun i => by
    rw [eta3 (a := 4) (b := 1536) (n := 3072) i]
    exact at_res_v25 m ρ c _ _ _

theorem at_res_v26 (b : Fin 4) (s : Fin 1536) (k : Fin 1) :
    (W7 m ρ c (Proc.devRef .tc main_v26) : Vec Ideal S4x1536x1 .f32) (ix3 b s k) = (args m c).a2Scale (ix3 b s k) := by
  rw [Subsingleton.elim k 0]
  exact (at_v26 (W6 m ρ c) b s).trans ((congrFun (v19_4 m ρ c) _).trans (flat_row _ b s 0))

theorem res_v26 : W7 m ρ c (Proc.devRef .tc main_v26) = (args m c).a2Scale :=
  funext fun i => by
    rw [eta3 (a := 4) (b := 1536) (n := 1) i]
    exact at_res_v26 m ρ c _ _ _

theorem at_res_v27 (b : Fin 4) (s : Fin 1536) (k : Fin 4096) :
    (W7 m ρ c (Proc.devRef .tc main_v27) : Vec Ideal S4x1536x4096 .fp8e4m3) (ix3 b s k) = (args m c).gCodes (ix3 b s k) :=
  (at_v27 (W6 m ρ c) b s k).trans ((congrFun (v19_5 m ρ c) _).trans (flat_row _ b s k))

theorem res_v27 : W7 m ρ c (Proc.devRef .tc main_v27) = (args m c).gCodes :=
  funext fun i => by
    rw [eta3 (a := 4) (b := 1536) (n := 4096) i]
    exact at_res_v27 m ρ c _ _ _

theorem at_res_v28 (b : Fin 4) (s : Fin 1536) (k : Fin 1) :
    (W7 m ρ c (Proc.devRef .tc main_v28) : Vec Ideal S4x1536x1 .f32) (ix3 b s k) = (args m c).gScale (ix3 b s k) := by
  rw [Subsingleton.elim k 0]
  exact (at_v28 (W6 m ρ c) b s).trans ((congrFun (v19_6 m ρ c) _).trans (flat_row _ b s 0))

theorem res_v28 : W7 m ρ c (Proc.devRef .tc main_v28) = (args m c).gScale :=
  funext fun i => by
    rw [eta3 (a := 4) (b := 1536) (n := 1) i]
    exact at_res_v28 m ρ c _ _ _

end Cert.Vit.K
-- ==== Proof.KernelRun.lean ====
/- The kernel's run: every execution ends with the nine results in place and the arguments as launched. -/
module

public import proofs.«01_k».proof.Proof.KernelFinal

@[expose] public section

set_option maxRecDepth 16384

noncomputable section

namespace Cert.Vit.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option backward.isDefEq.respectTransparency.types false in
/-- Every execution ends with each array at the contents the three calls and the reshapes between them leave. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-- Every execution ends with the nine results in place and the arguments as launched. -/
theorem run : θ_run defs (onTc (τ := τ) (main (F := Ideal))) ⟨m, fun _ => 0, ρ⟩ (fun r => ∀ c : Dev nD,
      r.2.mem ((c.tc : Thread nD τ).loc main_v20) = (args m c).yArr
      ∧ r.2.mem ((c.tc : Thread nD τ).loc main_v21) = (args m c).a1Codes
      ∧ r.2.mem ((c.tc : Thread nD τ).loc main_v22) = (args m c).a1Scale
      ∧ r.2.mem ((c.tc : Thread nD τ).loc main_v23) = (args m c).oCodes
      ∧ r.2.mem ((c.tc : Thread nD τ).loc main_v24) = (args m c).oScale
      ∧ r.2.mem ((c.tc : Thread nD τ).loc main_v25) = (args m c).a2Codes
      ∧ r.2.mem ((c.tc : Thread nD τ).loc main_v26) = (args m c).a2Scale
      ∧ r.2.mem ((c.tc : Thread nD τ).loc main_v27) = (args m c).gCodes
      ∧ r.2.mem ((c.tc : Thread nD τ).loc main_v28) = (args m c).gScale
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v20 (by decide))).trans (res_v20 m ρ c),
     (h c _ (mem_uc main_v21 (by decide))).trans (res_v21 m ρ c),
     (h c _ (mem_uc main_v22 (by decide))).trans (res_v22 m ρ c),
     (h c _ (mem_uc main_v23 (by decide))).trans (res_v23 m ρ c),
     (h c _ (mem_uc main_v24 (by decide))).trans (res_v24 m ρ c),
     (h c _ (mem_uc main_v25 (by decide))).trans (res_v25 m ρ c),
     (h c _ (mem_uc main_v26 (by decide))).trans (res_v26 m ρ c),
     (h c _ (mem_uc main_v27 (by decide))).trans (res_v27 m ρ c),
     (h c _ (mem_uc main_v28 (by decide))).trans (res_v28 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c)⟩) (run_all m ρ)

end Cert.Vit.K
-- ==== Proof.RefQuant.lean ====
/- The reference's quantiser: levels and exponents, row by row. -/
module

public import proofs.«01_k».proof.Proof.Scale
public import proofs.«01_k».proof.Proof.Gen.ReferenceIdeal.Skeleton

@[expose] public section

set_option maxRecDepth 16384

noncomputable section

namespace Cert.Vit.R

open Idealize.ShloMosaic Cert.ReferenceIdeal Cert.ReferenceIdeal.Gen

/-- The maximum along the last axis of a rank-three array, row by row. -/
theorem rowmax {a b n : ℕ} (v : FVec Ideal ⟨3, ![a, b, n]⟩ .f32)
    (h : (⟨3, ![a, b, n]⟩ : Shape).Reduces [2] ⟨2, ![a, b]⟩) (hφ : FKind.Formats .f32)
    (hacc : (0xFF800000#32 : BitVec FTy.f32.bits) = FKind.maximumf.neutral .f32 hφ) (i : Fin a) (j : Fin b) :
    multiReduction .maximumf [2] ⟨2, ![a, b]⟩ v 0xFF800000#32 h hφ hacc (ix2 i j)
      = Finset.univ.fold max (f32 0xFF800000#32) fun k => v (ix3 i j k) := by
  pointwise []

/-- The maximum along the last axis of a rank-four array, row by row. -/
theorem rowmax4 {a b c n : ℕ} (v : FVec Ideal ⟨4, ![a, b, c, n]⟩ .f32)
    (h : (⟨4, ![a, b, c, n]⟩ : Shape).Reduces [3] ⟨3, ![a, b, c]⟩) (hφ : FKind.Formats .f32)
    (hacc : (0xFF800000#32 : BitVec FTy.f32.bits) = FKind.maximumf.neutral .f32 hφ) (i : Fin a) (j : Fin b) (l : Fin c) :
    multiReduction .maximumf [3] ⟨3, ![a, b, c]⟩ v 0xFF800000#32 h hφ hacc (ix3 i j l)
      = Finset.univ.fold max (f32 0xFF800000#32) fun k => v (ix4 i j l k) := by
  pointwise []

/-- The exponents of an array of levels, as the reference computes them. -/
def expOf (L : FVec Ideal S4x1536x1 .f32) : FVec Ideal S4x1536x1 .f32 :=
  select (cmpf .olt L (broadcast S4x1536x1 (Scalar.ofBits (F := Ideal) .f32 0x00800000#32)))
    (broadcast S4x1536x1 (Scalar.ofBits (F := Ideal) .f32 0x00000000#32))
    (addf (floor (divf (log (minimumf L (broadcast S4x1536x1 (Scalar.ofBits (F := Ideal) .f32 0x7E000000#32))))
      (log (broadcast S4x1536x1 (Scalar.ofBits (F := Ideal) .f32 0x40000000#32)))))
      (broadcast S4x1536x1 (Scalar.ofBits (F := Ideal) .f32 0x3F800000#32)))

theorem expOf_at (L : FVec Ideal S4x1536x1 .f32) (b : Fin 4) (s : Fin 1536) :
    expOf L (ix3 b s 0) = exponent (L (ix3 b s 0)) := by
  pointwise [expOf]
  rfl

theorem exp2_def (a : Ideal .f32) : FloatOps.exp2 a = Ideal.exp2 a := rfl

/-- The levels from the largest magnitudes of the rows. -/
def levelsOf (M : FVec Ideal S4x1536 .f32) : FVec Ideal S4x1536x1 .f32 :=
  mulf (shapeCast S4x1536x1 M shapeCasts_S4x1536_S4x1536x1)
    (broadcast S4x1536x1 (Scalar.ofBits (F := Ideal) .f32 0x3B124925#32))

theorem levelsOf_at (M : FVec Ideal S4x1536 .f32) (b : Fin 4) (s : Fin 1536) :
    levelsOf M (ix3 b s 0) = M (ix2 b s) * f32 0x3B124925#32 := by
  pointwise [levelsOf]

/-- The levels of the rows of an array of width 1536, as the reference computes them. -/
def levels1536 (v : FVec Ideal S4x1536x1536 .f32) : FVec Ideal S4x1536x1 .f32 :=
  levelsOf (multiReduction .maximumf [2] S4x1536 (absf v) 0xFF800000#32
    reduces_S4x1536x1536_S4x1536 (.inl rfl) rfl)

theorem levels1536_at (v : FVec Ideal S4x1536x1536 .f32) (b : Fin 4) (s : Fin 1536) :
    levels1536 v (ix3 b s 0) = level fun k => v (ix3 b s k) :=
  (levelsOf_at _ b s).trans (congrArg (· * f32 0x3B124925#32) (rowmax (absf v) _ _ _ b s))

/-- The levels of the rows of an array of width 3072, as the reference computes them. -/
def levels3072 (v : FVec Ideal S4x1536x3072 .f32) : FVec Ideal S4x1536x1 .f32 :=
  levelsOf (multiReduction .maximumf [2] S4x1536 (absf v) 0xFF800000#32
    reduces_S4x1536x3072_S4x1536 (.inl rfl) rfl)

theorem levels3072_at (v : FVec Ideal S4x1536x3072 .f32) (b : Fin 4) (s : Fin 1536) :
    levels3072 v (ix3 b s 0) = level fun k => v (ix3 b s k) :=
  (levelsOf_at _ b s).trans (congrArg (· * f32 0x3B124925#32) (rowmax (absf v) _ _ _ b s))

/-- The levels of the rows of an array of width 4096, as the reference computes them. -/
def levels4096 (v : FVec Ideal S4x1536x4096 .f32) : FVec Ideal S4x1536x1 .f32 :=
  levelsOf (multiReduction .maximumf [2] S4x1536 (absf v) 0xFF800000#32
    reduces_S4x1536x4096_S4x1536 (.inl rfl) rfl)

theorem levels4096_at (v : FVec Ideal S4x1536x4096 .f32) (b : Fin 4) (s : Fin 1536) :
    levels4096 v (ix3 b s 0) = level fun k => v (ix3 b s k) :=
  (levelsOf_at _ b s).trans (congrArg (· * f32 0x3B124925#32) (rowmax (absf v) _ _ _ b s))

/-- The scales of an array of exponents. -/
theorem exp2_at (E : FVec Ideal S4x1536x1 .f32) (b : Fin 4) (s : Fin 1536) :
    exp2 E (ix3 b s 0) = Ideal.exp2 (E (ix3 b s 0)) := rfl

end Cert.Vit.R
-- ==== Proof.RefLoad.lean ====
/- The intermediate vectors of the reference's body over its argument arrays. -/
module

public import proofs.«01_k».proof.Proof.RefQuant
public import proofs.«01_k».proof.Proof.Gen.ReferenceIdeal.Frame
public import Idealize.ShloMosaic.Lib.Pipeline.ValueKit

@[expose] public section

set_option maxRecDepth 16384

noncomputable section

namespace Cert.Vit.R

open Idealize.ShloMosaic Cert.ReferenceIdeal Cert.ReferenceIdeal.Gen

variable (x0 : Vec Ideal S4x1536x3072 .bf16)
  (x1 : Vec Ideal S4x1536 .i32)
  (x2 : Vec Ideal S3072 .f32)
  (x3 : Vec Ideal S3072 .f32)
  (x4 : Vec Ideal S3072x4608 .fp8e4m3)
  (x5 : Vec Ideal S4608 .f32)
  (x6 : Vec Ideal S4608 .f32)
  (x7 : Vec Ideal S1536x3072 .fp8e4m3)
  (x8 : Vec Ideal S3072 .f32)
  (x9 : Vec Ideal S3072 .f32)
  (x10 : Vec Ideal S3072 .f32)
  (x11 : Vec Ideal S3072 .f32)
  (x12 : Vec Ideal S3072x4096 .fp8e4m3)
  (x13 : Vec Ideal S4096 .f32)
  (x14 : Vec Ideal S4096 .f32)
  (x15 : Vec Ideal S4096x3072 .fp8e4m3)
  (x16 : Vec Ideal S3072 .f32)
  (x17 : Vec Ideal S3072 .f32)

/-! The intermediate vectors of the body, with whole-array loads read as the arrays. -/

theorem eq35 : k0_pay35 x0 x1 x2 x3 x4 x5 x6 x7 x8 x9 x10 x11 x12 x13 x14 x15 x16 x17 = k0_pay5 x0 x2 x3 := by
  unfold k0_pay35
  frame_out

theorem eq36 : k0_pay36 x0 x1 x2 x3 x4 x5 x6 x7 x8 x9 x10 x11 x12 x13 x14 x15 x16 x17 = k0_pay7 x0 x2 x3 := by
  unfold k0_pay36
  frame_out

theorem eq37 : k0_pay37 x0 x1 x2 x3 x4 x5 x6 x7 x8 x9 x10 x11 x12 x13 x14 x15 x16 x17 = k0_pay8 x0 x2 x3 := by
  unfold k0_pay37
  frame_out

theorem eq38 : k0_pay38 x0 x1 x2 x3 x4 x5 x6 x7 x8 x9 x10 x11 x12 x13 x14 x15 x16 x17 = k0_pay13 (k0_pay35 x0 x1 x2 x3 x4 x5 x6 x7 x8 x9 x10 x11 x12 x13 x14 x15 x16 x17) (k0_pay36 x0 x1 x2 x3 x4 x5 x6 x7 x8 x9 x10 x11 x12 x13 x14 x15 x16 x17) (k0_pay37 x0 x1 x2 x3 x4 x5 x6 x7 x8 x9 x10 x11 x12 x13 x14 x15 x16 x17) x4 x5 x6 := by
  unfold k0_pay38
  frame_out

theorem eq39 : k0_pay39 x0 x1 x2 x3 x4 x5 x6 x7 x8 x9 x10 x11 x12 x13 x14 x15 x16 x17 = k0_pay14 (k0_pay35 x0 x1 x2 x3 x4 x5 x6 x7 x8 x9 x10 x11 x12 x13 x14 x15 x16 x17) (k0_pay36 x0 x1 x2 x3 x4 x5 x6 x7 x8 x9 x10 x11 x12 x13 x14 x15 x16 x17) (k0_pay37 x0 x1 x2 x3 x4 x5 x6 x7 x8 x9 x10 x11 x12 x13 x14 x15 x16 x17) x4 x5 x6 := by
  unfold k0_pay39
  frame_out

theorem eq40 : k0_pay40 x0 x1 x2 x3 x4 x5 x6 x7 x8 x9 x10 x11 x12 x13 x14 x15 x16 x17 = k0_pay15 := rfl

theorem eq41 : k0_pay41 x0 x1 x2 x3 x4 x5 x6 x7 x8 x9 x10 x11 x12 x13 x14 x15 x16 x17 = k0_pay16 (k0_pay38 x0 x1 x2 x3 x4 x5 x6 x7 x8 x9 x10 x11 x12 x13 x14 x15 x16 x17) (k0_pay39 x0 x1 x2 x3 x4 x5 x6 x7 x8 x9 x10 x11 x12 x13 x14 x15 x16 x17) (k0_pay40 x0 x1 x2 x3 x4 x5 x6 x7 x8 x9 x10 x11 x12 x13 x14 x15 x16 x17) x1 := by
  unfold k0_pay41
  frame_out

theorem eq42 : k0_pay42 x0 x1 x2 x3 x4 x5 x6 x7 x8 x9 x10 x11 x12 x13 x14 x15 x16 x17 = k0_pay18 (k0_pay38 x0 x1 x2 x3 x4 x5 x6 x7 x8 x9 x10 x11 x12 x13 x14 x15 x16 x17) (k0_pay39 x0 x1 x2 x3 x4 x5 x6 x7 x8 x9 x10 x11 x12 x13 x14 x15 x16 x17) (k0_pay40 x0 x1 x2 x3 x4 x5 x6 x7 x8 x9 x10 x11 x12 x13 x14 x15 x16 x17) x1 := by
  unfold k0_pay42
  frame_out

theorem eq43 : k0_pay43 x0 x1 x2 x3 x4 x5 x6 x7 x8 x9 x10 x11 x12 x13 x14 x15 x16 x17 = k0_pay19 (k0_pay38 x0 x1 x2 x3 x4 x5 x6 x7 x8 x9 x10 x11 x12 x13 x14 x15 x16 x17) (k0_pay39 x0 x1 x2 x3 x4 x5 x6 x7 x8 x9 x10 x11 x12 x13 x14 x15 x16 x17) (k0_pay40 x0 x1 x2 x3 x4 x5 x6 x7 x8 x9 x10 x11 x12 x13 x14 x15 x16 x17) x1 := by
  unfold k0_pay43
  frame_out

theorem eq44 : k0_pay44 x0 x1 x2 x3 x4 x5 x6 x7 x8 x9 x10 x11 x12 x13 x14 x15 x16 x17 = k0_pay20 := rfl

theorem eq45 : k0_pay45 x0 x1 x2 x3 x4 x5 x6 x7 x8 x9 x10 x11 x12 x13 x14 x15 x16 x17 = k0_pay24 x0 (k0_pay41 x0 x1 x2 x3 x4 x5 x6 x7 x8 x9 x10 x11 x12 x13 x14 x15 x16 x17) (k0_pay42 x0 x1 x2 x3 x4 x5 x6 x7 x8 x9 x10 x11 x12 x13 x14 x15 x16 x17) (k0_pay43 x0 x1 x2 x3 x4 x5 x6 x7 x8 x9 x10 x11 x12 x13 x14 x15 x16 x17) (k0_pay44 x0 x1 x2 x3 x4 x5 x6 x7 x8 x9 x10 x11 x12 x13 x14 x15 x16 x17) x7 x8 x9 := by
  unfold k0_pay45
  frame_out

theorem eq46 : k0_pay46 x0 x1 x2 x3 x4 x5 x6 x7 x8 x9 x10 x11 x12 x13 x14 x15 x16 x17 = k0_pay25 x0 (k0_pay41 x0 x1 x2 x3 x4 x5 x6 x7 x8 x9 x10 x11 x12 x13 x14 x15 x16 x17) (k0_pay42 x0 x1 x2 x3 x4 x5 x6 x7 x8 x9 x10 x11 x12 x13 x14 x15 x16 x17) (k0_pay43 x0 x1 x2 x3 x4 x5 x6 x7 x8 x9 x10 x11 x12 x13 x14 x15 x16 x17) (k0_pay44 x0 x1 x2 x3 x4 x5 x6 x7 x8 x9 x10 x11 x12 x13 x14 x15 x16 x17) x7 x8 x9 := by
  unfold k0_pay46
  frame_out

theorem eq47 : k0_pay47 x0 x1 x2 x3 x4 x5 x6 x7 x8 x9 x10 x11 x12 x13 x14 x15 x16 x17 = k0_pay26 x0 (k0_pay41 x0 x1 x2 x3 x4 x5 x6 x7 x8 x9 x10 x11 x12 x13 x14 x15 x16 x17) (k0_pay42 x0 x1 x2 x3 x4 x5 x6 x7 x8 x9 x10 x11 x12 x13 x14 x15 x16 x17) (k0_pay43 x0 x1 x2 x3 x4 x5 x6 x7 x8 x9 x10 x11 x12 x13 x14 x15 x16 x17) (k0_pay44 x0 x1 x2 x3 x4 x5 x6 x7 x8 x9 x10 x11 x12 x13 x14 x15 x16 x17) x7 x8 x9 := by
  unfold k0_pay47
  frame_out

theorem eq48 : k0_pay48 x0 x1 x2 x3 x4 x5 x6 x7 x8 x9 x10 x11 x12 x13 x14 x15 x16 x17 = k0_pay29 (k0_pay45 x0 x1 x2 x3 x4 x5 x6 x7 x8 x9 x10 x11 x12 x13 x14 x15 x16 x17) x10 x11 (k0_pay46 x0 x1 x2 x3 x4 x5 x6 x7 x8 x9 x10 x11 x12 x13 x14 x15 x16 x17) (k0_pay47 x0 x1 x2 x3 x4 x5 x6 x7 x8 x9 x10 x11 x12 x13 x14 x15 x16 x17) := by
  unfold k0_pay48
  frame_out

theorem eq49 : k0_pay49 x0 x1 x2 x3 x4 x5 x6 x7 x8 x9 x10 x11 x12 x13 x14 x15 x16 x17 = k0_pay30 (k0_pay45 x0 x1 x2 x3 x4 x5 x6 x7 x8 x9 x10 x11 x12 x13 x14 x15 x16 x17) x10 x11 (k0_pay46 x0 x1 x2 x3 x4 x5 x6 x7 x8 x9 x10 x11 x12 x13 x14 x15 x16 x17) (k0_pay47 x0 x1 x2 x3 x4 x5 x6 x7 x8 x9 x10 x11 x12 x13 x14 x15 x16 x17) := by
  unfold k0_pay49
  frame_out

theorem eq50 : k0_pay50 x0 x1 x2 x3 x4 x5 x6 x7 x8 x9 x10 x11 x12 x13 x14 x15 x16 x17 = k0_pay31 (k0_pay48 x0 x1 x2 x3 x4 x5 x6 x7 x8 x9 x10 x11 x12 x13 x14 x15 x16 x17) (k0_pay49 x0 x1 x2 x3 x4 x5 x6 x7 x8 x9 x10 x11 x12 x13 x14 x15 x16 x17) x12 x13 x14 := by
  unfold k0_pay50
  frame_out

theorem eq51 : k0_pay51 x0 x1 x2 x3 x4 x5 x6 x7 x8 x9 x10 x11 x12 x13 x14 x15 x16 x17 = k0_pay33 (k0_pay48 x0 x1 x2 x3 x4 x5 x6 x7 x8 x9 x10 x11 x12 x13 x14 x15 x16 x17) (k0_pay49 x0 x1 x2 x3 x4 x5 x6 x7 x8 x9 x10 x11 x12 x13 x14 x15 x16 x17) x12 x13 x14 := by
  unfold k0_pay51
  frame_out

theorem eq52 : k0_pay52 x0 x1 x2 x3 x4 x5 x6 x7 x8 x9 x10 x11 x12 x13 x14 x15 x16 x17 = k0_pay34 (k0_pay48 x0 x1 x2 x3 x4 x5 x6 x7 x8 x9 x10 x11 x12 x13 x14 x15 x16 x17) (k0_pay49 x0 x1 x2 x3 x4 x5 x6 x7 x8 x9 x10 x11 x12 x13 x14 x15 x16 x17) x12 x13 x14 := by
  unfold k0_pay52
  frame_out

end Cert.Vit.R
-- ==== Proof.RefQkv.lean ====
/- The reference's first layer norm, its quantiser and the queries, keys and values. -/
module

public import proofs.«01_k».proof.Proof.RefQuant

@[expose] public section

set_option maxRecDepth 16384

noncomputable section

namespace Cert.Vit.R

open Idealize.ShloMosaic Cert.ReferenceIdeal Cert.ReferenceIdeal.Gen

variable (x : Vec Ideal S4x1536x3072 .bf16) (g d : Vec Ideal S3072 .f32) (b : Fin 4) (s : Fin 1536)

/-- The first layer norm. -/
theorem ln_at (j : Fin 3072) : k0_pay5 x g d (ix3 b s j)
    = layernorm (fun k => x (ix3 b s k)) (fun k => g (ix1 k)) (fun k => d (ix1 k)) j := by
  pointwise [k0_pay5]
  rfl

theorem exp_eq : k0_pay9 (k0_pay7 x g d) (k0_pay8 x g d) = expOf (levels3072 (k0_pay5 x g d)) := rfl

theorem pay11_at (u : FVec Ideal S4x1536x1 .f32) (v : IVec S4x1536x1 1) :
    k0_pay11 u v (ix3 b s 0) = Ideal.exp2 (k0_pay9 u v (ix3 b s 0)) := rfl

theorem pay10_at (w : FVec Ideal S4x1536x3072 .f32) (u : FVec Ideal S4x1536x1 .f32) (v : IVec S4x1536x1 1) (j : Fin 3072) :
    k0_pay10 w u v (ix3 b s j) = min (f32 0x43E00000#32) (max (f32 0xC3E00000#32)
      (w (ix3 b s j) * Ideal.exp2 (0 - k0_pay9 u v (ix3 b s 0)))) := by
  unfold k0_pay10
  generalize k0_pay9 u v = E
  pointwise []
  simp only [exp2_def]

/-- The scale of the first layer norm's row. -/
theorem scale1_at : k0_pay11 (k0_pay7 x g d) (k0_pay8 x g d) (ix3 b s 0)
    = scale fun k => k0_pay5 x g d (ix3 b s k) := by
  rw [pay11_at, exp_eq, expOf_at, levels3072_at, scale]

/-- The codes of the first layer norm's row. -/
theorem codes1_at (j : Fin 3072) : k0_pay10 (k0_pay5 x g d) (k0_pay7 x g d) (k0_pay8 x g d) (ix3 b s j)
    = codes (fun k => k0_pay5 x g d (ix3 b s k)) j := by
  rw [pay10_at, exp_eq, expOf_at, levels3072_at, codes]

/-- Queries, keys and values, part by part, head by head. -/
theorem qkv_at (w : FVec Ideal S4x1536x3072 .f32) (u : FVec Ideal S4x1536x1 .f32) (v : IVec S4x1536x1 1)
    (W : Vec Ideal S3072x4608 .fp8e4m3) (ws c : Vec Ideal S4608 .f32) (p : Fin 3) (h : Fin 16) (e : Fin 96) :
    k0_pay12 w u v W ws c (ix4 p (⟨b.val * 16 + h.val, by omega⟩ : Fin 64) s e)
      = (∑ k : Fin 3072, k0_pay10 w u v (ix3 b s k) * W (ix2 k (Args.col p h e))) * k0_pay11 u v (ix3 b s 0)
          * ws (ix1 (Args.col p h e)) + c (ix1 (Args.col p h e)) := by
  have e1 : (⟨p.val * 1536 + h.val * 96 + e.val, by omega⟩ : Fin 4608) = Args.col p h e :=
    Fin.ext (by simp only [Args.col]; omega)
  pointwise [k0_pay12]
  rw [e1]

end Cert.Vit.R
-- ==== Proof.RefAttn.lean ====
/- The reference's attention: scores, softmax and weighted values. -/
module

public import proofs.«01_k».proof.Proof.RefQkv

@[expose] public section

set_option maxRecDepth 16384

noncomputable section

namespace Cert.Vit.R

open Idealize.ShloMosaic Cert.ReferenceIdeal Cert.ReferenceIdeal.Gen

variable (w : FVec Ideal S4x1536x3072 .f32) (u : FVec Ideal S4x1536x1 .f32) (v : IVec S4x1536x1 1)
  (W : Vec Ideal S3072x4608 .fp8e4m3) (ws c : Vec Ideal S4608 .f32)

/-- The products of queries and keys. -/
theorem products_at (n : Fin 64) (s t : Fin 1536) : k0_pay14 w u v W ws c (ix3 n s t)
    = ∑ e : Fin 96, k0_pay12 w u v W ws c (ix4 0 n s e) * k0_pay12 w u v W ws c (ix4 1 n t e) := by
  unfold k0_pay14
  generalize k0_pay12 w u v W ws c = Q
  pointwise []

/-- The values. -/
theorem values_at (n : Fin 64) (s : Fin 1536) (e : Fin 96) :
    k0_pay13 w u v W ws c (ix3 n s e) = k0_pay12 w u v W ws c (ix4 2 n s e) := by
  unfold k0_pay13
  generalize k0_pay12 w u v W ws c = Q
  pointwise []

/-- The masked scores, head by head. -/
def masked (P C : FVec Ideal S64x1536x1536 .f32) (sg : Vec Ideal S4x1536 .i32) : FVec Ideal S4x16x1536x1536 .f32 :=
  select (broadcastTo S4x16x1536x1536 (shapeCast S4x1x1536x1536 (cmpi .eq
      (broadcastTo S4x1x1536x1536 (shapeCast S4x1x1536x1 sg shapeCasts_S4x1536_S4x1x1536x1) broadcasts_S4x1x1536x1_S4x1x1536x1536)
      (broadcastTo S4x1x1536x1536 (shapeCast S4x1x1x1536 sg shapeCasts_S4x1536_S4x1x1x1536) broadcasts_S4x1x1x1536_S4x1x1536x1536))
      shapeCasts_S4x1x1536x1536_S4x1x1536x1536) broadcasts_S4x1x1536x1536_S4x16x1536x1536)
    (shapeCast S4x16x1536x1536 (mulf P C) shapeCasts_S64x1536x1536_S4x16x1536x1536)
    (broadcast S4x16x1536x1536 (Scalar.ofBits (F := Ideal) .f32 0xFF800000#32))

/-- The largest score of each query. -/
def tops (M : FVec Ideal S4x16x1536x1536 .f32) : FVec Ideal S4x16x1536 .f32 :=
  multiReduction .maximumf [3] S4x16x1536 M 0xFF800000#32 reduces_S4x16x1536x1536_S4x16x1536 (.inl rfl) rfl

/-- The exponentials of the scores, each below its query's largest. -/
def weights (M : FVec Ideal S4x16x1536x1536 .f32) (T : FVec Ideal S4x16x1536 .f32) : FVec Ideal S4x16x1536x1536 .f32 :=
  exp (subf M (broadcastTo S4x16x1536x1536 (shapeCast S4x16x1536x1 (maximumf
    (broadcast S4x16x1536 (Scalar.ofBits (F := Ideal) .f32 0xFF800000#32)) T) shapeCasts_S4x16x1536_S4x16x1536x1)
      broadcasts_S4x16x1536x1_S4x16x1536x1536))

/-- The weighted values, the heads side by side. -/
def mix (V : FVec Ideal S64x1536x96 .bf16) (E : FVec Ideal S4x16x1536x1536 .f32) : FVec Ideal S4x1536x1536 .f32 :=
  shapeCast S4x1536x1536 (transpose S4x1536x16x96 [0, 2, 1, 3] (shapeCast S4x16x1536x96
    (matmul dot_S64x1536x1536_S64x1536x96_S64x1536x96_2_1_1_2_0_0 none
      (shapeCast S64x1536x1536 (truncf .bf16 (divf E (broadcastTo S4x16x1536x1536 (shapeCast S4x16x1536x1
        (multiReduction .add [3] S4x16x1536 E 0x00000000#32 reduces_S4x16x1536x1536_S4x16x1536 (.inl rfl) rfl)
        shapeCasts_S4x16x1536_S4x16x1536x1) broadcasts_S4x16x1536x1_S4x16x1536x1536)) bitsLt_bf16_f32)
        shapeCasts_S4x16x1536x1536_S64x1536x1536) V (constant S64x1536x96 .f32 0x00000000#32))
    shapeCasts_S64x1536x96_S4x16x1536x96) transposes_S4x16x1536x96_p0_2_1_3_S4x1536x16x96)
    shapeCasts_S4x1536x16x96_S4x1536x1536

theorem pay16_eq (V : FVec Ideal S64x1536x96 .bf16) (P C : FVec Ideal S64x1536x1536 .f32) (sg : Vec Ideal S4x1536 .i32) :
    k0_pay16 V P C sg = mix V (weights (masked P C sg) (tops (masked P C sg))) := rfl

theorem select_eq {α : Type} (a b : BitVec 32) (x y : α) :
    Scalar.select (IntOp.cmpi .eq a b) x y = if a = b then x else y := by
  by_cases h : a = b
  · simp [Scalar.select, IntOp.cmpi, h]
  · have e : (a == b) = false := by simpa using h
    simp [Scalar.select, IntOp.cmpi, h, e]

theorem masked_at (P C : FVec Ideal S64x1536x1536 .f32) (sg : Vec Ideal S4x1536 .i32) (b : Fin 4) (h : Fin 16)
    (s t : Fin 1536) : masked P C sg (ix4 b h s t)
      = if sg (ix2 b s) = sg (ix2 b t) then P (ix3 (⟨b.val * 16 + h.val, by omega⟩ : Fin 64) s t)
          * C (ix3 (⟨b.val * 16 + h.val, by omega⟩ : Fin 64) s t) else f32 0xFF800000#32 := by
  pointwise [masked]
  simp only [select_eq]

theorem tops_at (M : FVec Ideal S4x16x1536x1536 .f32) (b : Fin 4) (h : Fin 16) (s : Fin 1536) :
    tops M (ix3 b h s) = top fun t => M (ix4 b h s t) := rowmax4 M _ _ _ b h s

theorem weights_at (M : FVec Ideal S4x16x1536x1536 .f32) (T : FVec Ideal S4x16x1536 .f32) (b : Fin 4) (h : Fin 16)
    (s t : Fin 1536) : weights M T (ix4 b h s t)
      = Ideal.exp (M (ix4 b h s t) - max (f32 0xFF800000#32) (T (ix3 b h s))) := by
  pointwise [weights]

theorem max_top (r : Row 1536) : max (f32 0xFF800000#32) (top r) = top r :=
  max_eq_right ((Finset.le_fold_max _).2 (.inl le_rfl))

theorem mix_at (V : FVec Ideal S64x1536x96 .bf16) (E : FVec Ideal S4x16x1536x1536 .f32) (b : Fin 4) (s j : Fin 1536) :
    mix V E (ix3 b s j) = ∑ k : Fin 1536, Ideal.div (E (ix4 b (⟨j.val / 96, by omega⟩ : Fin 16) s k))
      (∑ l : Fin 1536, E (ix4 b (⟨j.val / 96, by omega⟩ : Fin 16) s l))
        * V (ix3 (⟨b.val * 16 + j.val / 96, by omega⟩ : Fin 64) k (⟨j.val % 96, by omega⟩ : Fin 96)) := by
  have e : (⟨(b.val * 16 + j.val / 96) % 16, by omega⟩ : Fin 16) = ⟨j.val / 96, by omega⟩ :=
    Fin.ext (by show (b.val * 16 + j.val / 96) % 16 = j.val / 96; omega)
  pointwise [mix]
  simp only [e]

theorem pay15_at (n : Fin 64) (s t : Fin 1536) : k0_pay15 (F := Ideal) (ix3 n s t) = f32 0x3DD105EC#32 := rfl

end Cert.Vit.R
-- ==== Proof.RefOut.lean ====
/- The reference's quantised attention output, output projection and second layer norm. -/
module

public import proofs.«01_k».proof.Proof.RefQuant

@[expose] public section

set_option maxRecDepth 16384

noncomputable section

namespace Cert.Vit.R

open Idealize.ShloMosaic Cert.ReferenceIdeal Cert.ReferenceIdeal.Gen

theorem o_exp (V : FVec Ideal S64x1536x96 .bf16) (P C : FVec Ideal S64x1536x1536 .f32) (sg : Vec Ideal S4x1536 .i32) :
    k0_pay21 (k0_pay18 V P C sg) (k0_pay19 V P C sg) k0_pay20 = expOf (levels1536 (k0_pay16 V P C sg)) := rfl

variable (o : FVec Ideal S4x1536x1536 .f32) (u : FVec Ideal S4x1536x1 .f32) (v : IVec S4x1536x1 1)
  (z : FVec Ideal S4x1536x1 .f32) (x : Vec Ideal S4x1536x3072 .bf16) (w : Vec Ideal S1536x3072 .fp8e4m3)
  (ws c : Vec Ideal S3072 .f32) (b : Fin 4) (s : Fin 1536)

theorem pay23_at : k0_pay23 u v z (ix3 b s 0) = Ideal.exp2 (k0_pay21 u v z (ix3 b s 0)) := rfl

theorem pay22_at (j : Fin 1536) :
    k0_pay22 o u v z (ix3 b s j) = min (f32 0x43E00000#32) (max (f32 0xC3E00000#32)
      (o (ix3 b s j) * Ideal.exp2 (0 - k0_pay21 u v z (ix3 b s 0)))) := by
  unfold k0_pay22
  generalize k0_pay21 u v z = E
  pointwise []
  simp only [exp2_def]

/-- The scale of the attention output's row. -/
theorem o_scale_at (V : FVec Ideal S64x1536x96 .bf16) (P C : FVec Ideal S64x1536x1536 .f32) (sg : Vec Ideal S4x1536 .i32) :
    k0_pay23 (k0_pay18 V P C sg) (k0_pay19 V P C sg) k0_pay20 (ix3 b s 0)
      = scale fun k => k0_pay16 V P C sg (ix3 b s k) := by
  rw [pay23_at, o_exp, expOf_at, levels1536_at, scale]

/-- The codes of the attention output's row. -/
theorem o_codes_at (V : FVec Ideal S64x1536x96 .bf16) (P C : FVec Ideal S64x1536x1536 .f32) (sg : Vec Ideal S4x1536 .i32)
    (j : Fin 1536) :
    k0_pay22 (k0_pay16 V P C sg) (k0_pay18 V P C sg) (k0_pay19 V P C sg) k0_pay20 (ix3 b s j)
      = codes (fun k => k0_pay16 V P C sg (ix3 b s k)) j := by
  rw [pay22_at, o_exp, expOf_at, levels1536_at, codes]

/-- The residual after attention. -/
theorem hidden_at (j : Fin 3072) : k0_pay24 x o u v z w ws c (ix3 b s j)
    = x (ix3 b s j) + ((∑ k : Fin 1536, k0_pay22 o u v z (ix3 b s k) * w (ix2 k j)) * k0_pay23 u v z (ix3 b s 0)
        * ws (ix1 j) + c (ix1 j)) := by
  unfold k0_pay24
  generalize k0_pay22 o u v z = E
  generalize k0_pay23 u v z = S
  pointwise []

/-- The mean of the residual's row. -/
theorem mean_at : k0_pay25 x o u v z w ws c (ix3 b s 0)
    = mean fun k => k0_pay24 x o u v z w ws c (ix3 b s k) := by
  unfold k0_pay25
  generalize k0_pay24 x o u v z w ws c = H
  pointwise []
  rfl

theorem square_at (j : Fin 3072) : k0_pay26 x o u v z w ws c (ix3 b s j)
    = (k0_pay24 x o u v z w ws c (ix3 b s j) - k0_pay25 x o u v z w ws c (ix3 b s 0))
      * (k0_pay24 x o u v z w ws c (ix3 b s j) - k0_pay25 x o u v z w ws c (ix3 b s 0)) := by
  unfold k0_pay26
  generalize k0_pay24 x o u v z w ws c = H
  generalize k0_pay25 x o u v z w ws c = M
  pointwise []

theorem pay27_at (H : FVec Ideal S4x1536x3072 .f32) (g d : Vec Ideal S3072 .f32) (M : FVec Ideal S4x1536x1 .f32)
    (Q : FVec Ideal S4x1536x3072 .f32) (j : Fin 3072) : k0_pay27 H g d M Q (ix3 b s j)
      = (H (ix3 b s j) - M (ix3 b s 0)) * Ideal.rsqrt (Ideal.div (∑ k : Fin 3072, Q (ix3 b s k)) (f32 0x45400000#32)
          + f32 0x358637BD#32) * g (ix1 j) + d (ix1 j) := by
  pointwise [k0_pay27]

/-- The second layer norm. -/
theorem ln2_at (g d : Vec Ideal S3072 .f32) (j : Fin 3072) :
    k0_pay27 (k0_pay24 x o u v z w ws c) g d (k0_pay25 x o u v z w ws c) (k0_pay26 x o u v z w ws c) (ix3 b s j)
      = layernorm (fun k => k0_pay24 x o u v z w ws c (ix3 b s k)) (fun k => g (ix1 k)) (fun k => d (ix1 k)) j := by
  rw [pay27_at]
  simp only [square_at, mean_at]
  generalize k0_pay24 x o u v z w ws c = H
  rfl

end Cert.Vit.R
-- ==== Proof.RefA2.lean ====
/- The reference's quantised second layer norm. -/
module

public import proofs.«01_k».proof.Proof.RefQuant

@[expose] public section

set_option maxRecDepth 16384

noncomputable section

namespace Cert.Vit.R

open Idealize.ShloMosaic Cert.ReferenceIdeal Cert.ReferenceIdeal.Gen

variable (H : FVec Ideal S4x1536x3072 .f32) (g d : Vec Ideal S3072 .f32) (M : FVec Ideal S4x1536x1 .f32)
    (Q : FVec Ideal S4x1536x3072 .f32) (b : Fin 4) (s : Fin 1536)

theorem a_exp : k0_pay28 H g d M Q = expOf (levels3072 (k0_pay27 H g d M Q)) := by
  unfold k0_pay28
  generalize k0_pay27 H g d M Q = A
  rfl

theorem pay30_eq : k0_pay30 H g d M Q = exp2 (k0_pay28 H g d M Q) := rfl

/-- The scale of the second layer norm's row. -/
theorem a_scale_at : k0_pay30 H g d M Q (ix3 b s 0) = scale fun k => k0_pay27 H g d M Q (ix3 b s k) := by
  rw [pay30_eq, exp2_at, a_exp, expOf_at, levels3072_at, scale]

/-- The codes of an array, from its exponents. -/
def codesOf (A : FVec Ideal S4x1536x3072 .f32) (E : FVec Ideal S4x1536x1 .f32) : FVec Ideal S4x1536x3072 .fp8e4m3 :=
  truncf .fp8e4m3 (minimumf (broadcast S4x1536x3072 (Scalar.ofBits (F := Ideal) .f32 0x43E00000#32))
    (maximumf (broadcast S4x1536x3072 (Scalar.ofBits (F := Ideal) .f32 0xC3E00000#32))
      (mulf A (broadcastTo S4x1536x3072 (exp2 (subf (broadcast S4x1536x1 (Scalar.ofBits (F := Ideal) .f32 0x00000000#32)) E))
        broadcasts_S4x1536x1_S4x1536x3072)))) bitsLt_fp8e4m3_f32

theorem codesOf_at (A : FVec Ideal S4x1536x3072 .f32) (E : FVec Ideal S4x1536x1 .f32) (j : Fin 3072) :
    codesOf A E (ix3 b s j) = min (f32 0x43E00000#32) (max (f32 0xC3E00000#32)
      (A (ix3 b s j) * Ideal.exp2 (0 - E (ix3 b s 0)))) := by
  pointwise [codesOf]
  simp only [exp2_def]

theorem pay29_eq : k0_pay29 H g d M Q = codesOf (k0_pay27 H g d M Q) (k0_pay28 H g d M Q) := rfl

/-- The codes of the second layer norm's row. -/
theorem a_codes_at (j : Fin 3072) : k0_pay29 H g d M Q (ix3 b s j)
    = codes (fun k => k0_pay27 H g d M Q (ix3 b s k)) j := by
  rw [pay29_eq, codesOf_at, a_exp, expOf_at, levels3072_at, codes]

end Cert.Vit.R
-- ==== Proof.RefAct.lean ====
/- The reference's activation. -/
module

public import proofs.«01_k».proof.Proof.RefQuant

@[expose] public section

set_option maxRecDepth 16384

noncomputable section

namespace Cert.Vit.R

open Idealize.ShloMosaic Cert.ReferenceIdeal Cert.ReferenceIdeal.Gen

variable (b : Fin 4) (s : Fin 1536)

variable (q : FVec Ideal S4x1536x3072 .fp8e4m3) (t : FVec Ideal S4x1536x1 .f32) (w : Vec Ideal S3072x4096 .fp8e4m3)
  (ws c : Vec Ideal S4096 .f32)

/-- The activation. -/
theorem act_at (j : Fin 4096) : k0_pay31 q t w ws c (ix3 b s j)
    = gelu ((∑ k : Fin 3072, q (ix3 b s k) * w (ix2 k j)) * t (ix3 b s 0) * ws (ix1 j) + c (ix1 j)) := by
  pointwise [k0_pay31]
  rfl

end Cert.Vit.R
-- ==== Proof.RefMlp.lean ====
/- The reference's quantised activation and output. -/
module

public import proofs.«01_k».proof.Proof.RefAct

@[expose] public section

set_option maxRecDepth 16384

noncomputable section

namespace Cert.Vit.R

open Idealize.ShloMosaic Cert.ReferenceIdeal Cert.ReferenceIdeal.Gen

variable (H : FVec Ideal S4x1536x3072 .f32) (b : Fin 4) (s : Fin 1536)

variable (q : FVec Ideal S4x1536x3072 .fp8e4m3) (t : FVec Ideal S4x1536x1 .f32) (w : Vec Ideal S3072x4096 .fp8e4m3)
  (ws c : Vec Ideal S4096 .f32)

theorem g_exp : k0_pay1 (k0_pay33 q t w ws c) (k0_pay34 q t w ws c) = expOf (levels4096 (k0_pay31 q t w ws c)) := rfl

theorem pay3_at (u : FVec Ideal S4x1536x1 .f32) (v : IVec S4x1536x1 1) :
    k0_pay3 u v (ix3 b s 0) = Ideal.exp2 (k0_pay1 u v (ix3 b s 0)) := rfl

theorem pay2_at (a : FVec Ideal S4x1536x4096 .f32) (u : FVec Ideal S4x1536x1 .f32) (v : IVec S4x1536x1 1) (j : Fin 4096) :
    k0_pay2 a u v (ix3 b s j) = min (f32 0x43E00000#32) (max (f32 0xC3E00000#32)
      (a (ix3 b s j) * Ideal.exp2 (0 - k0_pay1 u v (ix3 b s 0)))) := by
  unfold k0_pay2
  generalize k0_pay1 u v = E
  pointwise []
  simp only [exp2_def]

/-- The scale of the activation's row. -/
theorem g_scale_at : k0_pay3 (k0_pay33 q t w ws c) (k0_pay34 q t w ws c) (ix3 b s 0)
    = scale fun k => k0_pay31 q t w ws c (ix3 b s k) := by
  rw [pay3_at, g_exp, expOf_at, levels4096_at, scale]

/-- The codes of the activation's row. -/
theorem g_codes_at (j : Fin 4096) :
    k0_pay2 (k0_pay31 q t w ws c) (k0_pay33 q t w ws c) (k0_pay34 q t w ws c) (ix3 b s j)
      = codes (fun k => k0_pay31 q t w ws c (ix3 b s k)) j := by
  rw [pay2_at, g_exp, expOf_at, levels4096_at, codes]

/-- The layer's output. -/
theorem y_at (a : FVec Ideal S4x1536x4096 .f32) (u : FVec Ideal S4x1536x1 .f32) (v : IVec S4x1536x1 1)
    (w2 : Vec Ideal S4096x3072 .fp8e4m3) (ws2 c2 : Vec Ideal S3072 .f32) (j : Fin 3072) :
    k0_pay4 H a u v w2 ws2 c2 (ix3 b s j)
      = H (ix3 b s j) + ((∑ k : Fin 4096, k0_pay2 a u v (ix3 b s k) * w2 (ix2 k j)) * k0_pay3 u v (ix3 b s 0)
          * ws2 (ix1 j) + c2 (ix1 j)) := by
  unfold k0_pay4
  generalize k0_pay2 a u v = E
  generalize k0_pay3 u v = S
  pointwise []

end Cert.Vit.R
-- ==== Proof.RefVal.lean ====
/- The reference's results, row by row, as the layer's functions of its arguments. -/
module

public import proofs.«01_k».proof.Proof.RefLoad
public import proofs.«01_k».proof.Proof.RefQkv
public import proofs.«01_k».proof.Proof.RefAttn
public import proofs.«01_k».proof.Proof.RefOut
public import proofs.«01_k».proof.Proof.RefA2
public import proofs.«01_k».proof.Proof.RefMlp
public import proofs.«01_k».proof.Proof.Arrays

@[expose] public section

set_option maxRecDepth 16384

noncomputable section

namespace Cert.Vit.R

open Idealize.ShloMosaic Cert.ReferenceIdeal Cert.ReferenceIdeal.Gen

variable (x0 : Vec Ideal S4x1536x3072 .bf16)
  (x1 : Vec Ideal S4x1536 .i32)
  (x2 : Vec Ideal S3072 .f32)
  (x3 : Vec Ideal S3072 .f32)
  (x4 : Vec Ideal S3072x4608 .fp8e4m3)
  (x5 : Vec Ideal S4608 .f32)
  (x6 : Vec Ideal S4608 .f32)
  (x7 : Vec Ideal S1536x3072 .fp8e4m3)
  (x8 : Vec Ideal S3072 .f32)
  (x9 : Vec Ideal S3072 .f32)
  (x10 : Vec Ideal S3072 .f32)
  (x11 : Vec Ideal S3072 .f32)
  (x12 : Vec Ideal S3072x4096 .fp8e4m3)
  (x13 : Vec Ideal S4096 .f32)
  (x14 : Vec Ideal S4096 .f32)
  (x15 : Vec Ideal S4096x3072 .fp8e4m3)
  (x16 : Vec Ideal S3072 .f32)
  (x17 : Vec Ideal S3072 .f32)
variable (b : Fin 4) (s : Fin 1536)

theorem a1_row : (fun k => k0_pay5 x0 x2 x3 (ix3 b s k)) = (ofArrays x0 x1 x2 x3 x4 x5 x6 x7 x8 x9 x10 x11 x12 x13 x14 x15 x16 x17).a1 b s := by
  funext j
  rw [ln_at]
  rfl

theorem a1Codes_at (j : Fin 3072) : k0_pay10 (k0_pay35 x0 x1 x2 x3 x4 x5 x6 x7 x8 x9 x10 x11 x12 x13 x14 x15 x16 x17) (k0_pay36 x0 x1 x2 x3 x4 x5 x6 x7 x8 x9 x10 x11 x12 x13 x14 x15 x16 x17) (k0_pay37 x0 x1 x2 x3 x4 x5 x6 x7 x8 x9 x10 x11 x12 x13 x14 x15 x16 x17) (ix3 b s j) = codes ((ofArrays x0 x1 x2 x3 x4 x5 x6 x7 x8 x9 x10 x11 x12 x13 x14 x15 x16 x17).a1 b s) j := by
  rw [eq35, eq36, eq37, codes1_at, a1_row x0 x1 x2 x3 x4 x5 x6 x7 x8 x9 x10 x11 x12 x13 x14 x15 x16 x17]

theorem a1Scale_at : k0_pay11 (k0_pay36 x0 x1 x2 x3 x4 x5 x6 x7 x8 x9 x10 x11 x12 x13 x14 x15 x16 x17) (k0_pay37 x0 x1 x2 x3 x4 x5 x6 x7 x8 x9 x10 x11 x12 x13 x14 x15 x16 x17) (ix3 b s 0) = scale ((ofArrays x0 x1 x2 x3 x4 x5 x6 x7 x8 x9 x10 x11 x12 x13 x14 x15 x16 x17).a1 b s) := by
  rw [eq36, eq37, scale1_at, a1_row x0 x1 x2 x3 x4 x5 x6 x7 x8 x9 x10 x11 x12 x13 x14 x15 x16 x17]

theorem qkv_of (p : Fin 3) (h : Fin 16) (e : Fin 96) :
    k0_pay12 (k0_pay35 x0 x1 x2 x3 x4 x5 x6 x7 x8 x9 x10 x11 x12 x13 x14 x15 x16 x17) (k0_pay36 x0 x1 x2 x3 x4 x5 x6 x7 x8 x9 x10 x11 x12 x13 x14 x15 x16 x17) (k0_pay37 x0 x1 x2 x3 x4 x5 x6 x7 x8 x9 x10 x11 x12 x13 x14 x15 x16 x17) x4 x5 x6 (ix4 p (⟨b.val * 16 + h.val, by omega⟩ : Fin 64) s e)
      = (ofArrays x0 x1 x2 x3 x4 x5 x6 x7 x8 x9 x10 x11 x12 x13 x14 x15 x16 x17).head b s p h e := by
  rw [qkv_at, a1Scale_at]
  simp only [a1Codes_at]
  rfl

/-- The attention output over abstract queries, keys and values. -/
theorem attend_at (V : FVec Ideal S64x1536x96 .bf16) (P : FVec Ideal S64x1536x1536 .f32) (sg : Vec Ideal S4x1536 .i32)
    (q k v : Fin 64 → Fin 1536 → Row 96) (hP : ∀ n s t, P (ix3 n s t) = ∑ e : Fin 96, q n s e * k n t e)
    (hV : ∀ n s e, V (ix3 n s e) = v n s e) (j : Fin 1536) :
    k0_pay16 V P k0_pay15 sg (ix3 b s j)
      = attend (q (⟨b.val * 16 + j.val / 96, by omega⟩ : Fin 64) s) (k (⟨b.val * 16 + j.val / 96, by omega⟩ : Fin 64))
          (v (⟨b.val * 16 + j.val / 96, by omega⟩ : Fin 64)) (sg (ix2 b s)) (fun t => sg (ix2 b t))
          (⟨j.val % 96, by omega⟩ : Fin 96) := by
  rw [pay16_eq, mix_at]
  simp only [weights_at, tops_at, max_top, masked_at, pay15_at, hP, hV]
  rfl

theorem attn_of (j : Fin 1536) : k0_pay41 x0 x1 x2 x3 x4 x5 x6 x7 x8 x9 x10 x11 x12 x13 x14 x15 x16 x17 (ix3 b s j) = (ofArrays x0 x1 x2 x3 x4 x5 x6 x7 x8 x9 x10 x11 x12 x13 x14 x15 x16 x17).attn b s j := by
  rw [eq41, eq40, eq38, eq39]
  rw [attend_at b s _ _ x1 _ _ _ (fun n s t => products_at _ _ _ x4 x5 x6 n s t) (fun n s e => values_at _ _ _ x4 x5 x6 n s e) j]
  have e (p : Fin 3) : (fun s e => k0_pay12 (k0_pay35 x0 x1 x2 x3 x4 x5 x6 x7 x8 x9 x10 x11 x12 x13 x14 x15 x16 x17) (k0_pay36 x0 x1 x2 x3 x4 x5 x6 x7 x8 x9 x10 x11 x12 x13 x14 x15 x16 x17) (k0_pay37 x0 x1 x2 x3 x4 x5 x6 x7 x8 x9 x10 x11 x12 x13 x14 x15 x16 x17) x4 x5 x6
      (ix4 p (⟨b.val * 16 + j.val / 96, by omega⟩ : Fin 64) s e)) = fun s => (ofArrays x0 x1 x2 x3 x4 x5 x6 x7 x8 x9 x10 x11 x12 x13 x14 x15 x16 x17).head b s p ⟨j.val / 96, by omega⟩ :=
    funext fun s => funext fun e => qkv_of x0 x1 x2 x3 x4 x5 x6 x7 x8 x9 x10 x11 x12 x13 x14 x15 x16 x17 b s p ⟨j.val / 96, by omega⟩ e
  rw [congrFun (e 0) s, e 1, e 2]
  rfl

theorem attn_row : (fun k => k0_pay16 (k0_pay38 x0 x1 x2 x3 x4 x5 x6 x7 x8 x9 x10 x11 x12 x13 x14 x15 x16 x17) (k0_pay39 x0 x1 x2 x3 x4 x5 x6 x7 x8 x9 x10 x11 x12 x13 x14 x15 x16 x17) (k0_pay40 x0 x1 x2 x3 x4 x5 x6 x7 x8 x9 x10 x11 x12 x13 x14 x15 x16 x17) x1 (ix3 b s k)) = (ofArrays x0 x1 x2 x3 x4 x5 x6 x7 x8 x9 x10 x11 x12 x13 x14 x15 x16 x17).attn b s := by
  rw [← eq41]
  exact funext fun j => attn_of x0 x1 x2 x3 x4 x5 x6 x7 x8 x9 x10 x11 x12 x13 x14 x15 x16 x17 b s j

theorem oCodes_at (j : Fin 1536) : k0_pay22 (k0_pay41 x0 x1 x2 x3 x4 x5 x6 x7 x8 x9 x10 x11 x12 x13 x14 x15 x16 x17) (k0_pay42 x0 x1 x2 x3 x4 x5 x6 x7 x8 x9 x10 x11 x12 x13 x14 x15 x16 x17) (k0_pay43 x0 x1 x2 x3 x4 x5 x6 x7 x8 x9 x10 x11 x12 x13 x14 x15 x16 x17) (k0_pay44 x0 x1 x2 x3 x4 x5 x6 x7 x8 x9 x10 x11 x12 x13 x14 x15 x16 x17) (ix3 b s j) = codes ((ofArrays x0 x1 x2 x3 x4 x5 x6 x7 x8 x9 x10 x11 x12 x13 x14 x15 x16 x17).attn b s) j := by
  rw [eq41, eq42, eq43, eq44, o_codes_at, attn_row]

theorem oScale_at : k0_pay23 (k0_pay42 x0 x1 x2 x3 x4 x5 x6 x7 x8 x9 x10 x11 x12 x13 x14 x15 x16 x17) (k0_pay43 x0 x1 x2 x3 x4 x5 x6 x7 x8 x9 x10 x11 x12 x13 x14 x15 x16 x17) (k0_pay44 x0 x1 x2 x3 x4 x5 x6 x7 x8 x9 x10 x11 x12 x13 x14 x15 x16 x17) (ix3 b s 0) = scale ((ofArrays x0 x1 x2 x3 x4 x5 x6 x7 x8 x9 x10 x11 x12 x13 x14 x15 x16 x17).attn b s) := by
  rw [eq42, eq43, eq44, o_scale_at, attn_row]

theorem hidden_of (j : Fin 3072) : k0_pay24 x0 (k0_pay41 x0 x1 x2 x3 x4 x5 x6 x7 x8 x9 x10 x11 x12 x13 x14 x15 x16 x17) (k0_pay42 x0 x1 x2 x3 x4 x5 x6 x7 x8 x9 x10 x11 x12 x13 x14 x15 x16 x17) (k0_pay43 x0 x1 x2 x3 x4 x5 x6 x7 x8 x9 x10 x11 x12 x13 x14 x15 x16 x17) (k0_pay44 x0 x1 x2 x3 x4 x5 x6 x7 x8 x9 x10 x11 x12 x13 x14 x15 x16 x17) x7 x8 x9 (ix3 b s j) = (ofArrays x0 x1 x2 x3 x4 x5 x6 x7 x8 x9 x10 x11 x12 x13 x14 x15 x16 x17).hidden b s j := by
  rw [hidden_at, oScale_at]
  simp only [oCodes_at]
  rfl

theorem a2_row : (fun k => k0_pay27 (k0_pay45 x0 x1 x2 x3 x4 x5 x6 x7 x8 x9 x10 x11 x12 x13 x14 x15 x16 x17) x10 x11 (k0_pay46 x0 x1 x2 x3 x4 x5 x6 x7 x8 x9 x10 x11 x12 x13 x14 x15 x16 x17) (k0_pay47 x0 x1 x2 x3 x4 x5 x6 x7 x8 x9 x10 x11 x12 x13 x14 x15 x16 x17) (ix3 b s k)) = (ofArrays x0 x1 x2 x3 x4 x5 x6 x7 x8 x9 x10 x11 x12 x13 x14 x15 x16 x17).a2 b s := by
  funext j
  rw [eq45, eq46, eq47, ln2_at]
  simp only [hidden_of]
  rfl

theorem a2Codes_at (j : Fin 3072) : k0_pay48 x0 x1 x2 x3 x4 x5 x6 x7 x8 x9 x10 x11 x12 x13 x14 x15 x16 x17 (ix3 b s j) = codes ((ofArrays x0 x1 x2 x3 x4 x5 x6 x7 x8 x9 x10 x11 x12 x13 x14 x15 x16 x17).a2 b s) j := by
  rw [eq48, a_codes_at, a2_row]

theorem a2Scale_at : k0_pay49 x0 x1 x2 x3 x4 x5 x6 x7 x8 x9 x10 x11 x12 x13 x14 x15 x16 x17 (ix3 b s 0) = scale ((ofArrays x0 x1 x2 x3 x4 x5 x6 x7 x8 x9 x10 x11 x12 x13 x14 x15 x16 x17).a2 b s) := by
  rw [eq49, a_scale_at, a2_row]

theorem act_row : (fun k => k0_pay31 (k0_pay48 x0 x1 x2 x3 x4 x5 x6 x7 x8 x9 x10 x11 x12 x13 x14 x15 x16 x17) (k0_pay49 x0 x1 x2 x3 x4 x5 x6 x7 x8 x9 x10 x11 x12 x13 x14 x15 x16 x17) x12 x13 x14 (ix3 b s k)) = (ofArrays x0 x1 x2 x3 x4 x5 x6 x7 x8 x9 x10 x11 x12 x13 x14 x15 x16 x17).act b s := by
  funext j
  rw [act_at, a2Scale_at]
  simp only [a2Codes_at]
  rfl

theorem gCodes_at (j : Fin 4096) : k0_pay2 (k0_pay50 x0 x1 x2 x3 x4 x5 x6 x7 x8 x9 x10 x11 x12 x13 x14 x15 x16 x17) (k0_pay51 x0 x1 x2 x3 x4 x5 x6 x7 x8 x9 x10 x11 x12 x13 x14 x15 x16 x17) (k0_pay52 x0 x1 x2 x3 x4 x5 x6 x7 x8 x9 x10 x11 x12 x13 x14 x15 x16 x17) (ix3 b s j) = codes ((ofArrays x0 x1 x2 x3 x4 x5 x6 x7 x8 x9 x10 x11 x12 x13 x14 x15 x16 x17).act b s) j := by
  rw [eq50, eq51, eq52, g_codes_at, act_row]

theorem gScale_at : k0_pay3 (k0_pay51 x0 x1 x2 x3 x4 x5 x6 x7 x8 x9 x10 x11 x12 x13 x14 x15 x16 x17) (k0_pay52 x0 x1 x2 x3 x4 x5 x6 x7 x8 x9 x10 x11 x12 x13 x14 x15 x16 x17) (ix3 b s 0) = scale ((ofArrays x0 x1 x2 x3 x4 x5 x6 x7 x8 x9 x10 x11 x12 x13 x14 x15 x16 x17).act b s) := by
  rw [eq51, eq52, g_scale_at, act_row]

theorem y_of (j : Fin 3072) : k0_pay4 (k0_pay45 x0 x1 x2 x3 x4 x5 x6 x7 x8 x9 x10 x11 x12 x13 x14 x15 x16 x17) (k0_pay50 x0 x1 x2 x3 x4 x5 x6 x7 x8 x9 x10 x11 x12 x13 x14 x15 x16 x17) (k0_pay51 x0 x1 x2 x3 x4 x5 x6 x7 x8 x9 x10 x11 x12 x13 x14 x15 x16 x17) (k0_pay52 x0 x1 x2 x3 x4 x5 x6 x7 x8 x9 x10 x11 x12 x13 x14 x15 x16 x17) x15 x16 x17 (ix3 b s j) = (ofArrays x0 x1 x2 x3 x4 x5 x6 x7 x8 x9 x10 x11 x12 x13 x14 x15 x16 x17).y b s j := by
  rw [y_at, gScale_at, eq45, hidden_of]
  simp only [gCodes_at]
  rfl

end Cert.Vit.R
-- ==== Proof.RefFinal.lean ====
/- The reference's result arrays at the end of a run. -/
module

public import proofs.«01_k».proof.Proof.RefVal

@[expose] public section

set_option maxRecDepth 16384

noncomputable section

namespace Cert.Vit.R

open Idealize.ShloMosaic Cert.ReferenceIdeal Cert.ReferenceIdeal.Gen

variable (m : (ℓ : Loc nD τ sig) → Buf (Elt Ideal) ℓ) (c : Dev nD)

/-- The layer's arguments as the device finds them. -/
def args : Args := ofArrays (m ((c.tc : Thread nD τ).loc main_arg0))
  (m ((c.tc : Thread nD τ).loc main_arg1))
  (m ((c.tc : Thread nD τ).loc main_arg2))
  (m ((c.tc : Thread nD τ).loc main_arg3))
  (m ((c.tc : Thread nD τ).loc main_arg4))
  (m ((c.tc : Thread nD τ).loc main_arg5))
  (m ((c.tc : Thread nD τ).loc main_arg6))
  (m ((c.tc : Thread nD τ).loc main_arg7))
  (m ((c.tc : Thread nD τ).loc main_arg8))
  (m ((c.tc : Thread nD τ).loc main_arg9))
  (m ((c.tc : Thread nD τ).loc main_arg10))
  (m ((c.tc : Thread nD τ).loc main_arg11))
  (m ((c.tc : Thread nD τ).loc main_arg12))
  (m ((c.tc : Thread nD τ).loc main_arg13))
  (m ((c.tc : Thread nD τ).loc main_arg14))
  (m ((c.tc : Thread nD τ).loc main_arg15))
  (m ((c.tc : Thread nD τ).loc main_arg16))
  (m ((c.tc : Thread nD τ).loc main_arg17))

/-! Each argument's block is the whole argument. -/

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0] := (by decide +kernel : ∀ t : Fin grid0.N, _)
theorem idx3 : ∀ t : Fin cfg0.N, win0_3.index t = ![0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0] := (by decide +kernel : ∀ t : Fin grid0.N, _)
theorem idx6 : ∀ t : Fin cfg0.N, win0_6.index t = ![0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0] := (by decide +kernel : ∀ t : Fin grid0.N, _)
theorem idx9 : ∀ t : Fin cfg0.N, win0_9.index t = ![0] := (by decide +kernel : ∀ t : Fin grid0.N, _)
theorem idx10 : ∀ t : Fin cfg0.N, win0_10.index t = ![0] := (by decide +kernel : ∀ t : Fin grid0.N, _)
theorem idx11 : ∀ t : Fin cfg0.N, win0_11.index t = ![0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0] := (by decide +kernel : ∀ t : Fin grid0.N, _)
theorem idx14 : ∀ t : Fin cfg0.N, win0_14.index t = ![0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0] := (by decide +kernel : ∀ t : Fin grid0.N, _)
theorem idx17 : ∀ t : Fin cfg0.N, win0_17.index t = ![0] := (by decide +kernel : ∀ t : Fin grid0.N, _)
theorem blk0 (t : Fin cfg0.N) : iblk m c 0 t = (m ((c.tc : Thread nD τ).loc main_arg0)) := by blk_ext! [iblk, V, idx0 t]
theorem blk1 (t : Fin cfg0.N) : iblk m c 1 t = (m ((c.tc : Thread nD τ).loc main_arg1)) := by blk_ext! [iblk, V, idx1 t]
theorem blk2 (t : Fin cfg0.N) : iblk m c 2 t = (m ((c.tc : Thread nD τ).loc main_arg2)) := by blk_ext! [iblk, V, idx2 t]
theorem blk3 (t : Fin cfg0.N) : iblk m c 3 t = (m ((c.tc : Thread nD τ).loc main_arg3)) := by blk_ext! [iblk, V, idx3 t]
theorem blk4 (t : Fin cfg0.N) : iblk m c 4 t = (m ((c.tc : Thread nD τ).loc main_arg4)) := by blk_ext! [iblk, V, idx4 t]
theorem blk5 (t : Fin cfg0.N) : iblk m c 5 t = (m ((c.tc : Thread nD τ).loc main_arg5)) := by blk_ext! [iblk, V, idx5 t]
theorem blk6 (t : Fin cfg0.N) : iblk m c 6 t = (m ((c.tc : Thread nD τ).loc main_arg6)) := by blk_ext! [iblk, V, idx6 t]
theorem blk7 (t : Fin cfg0.N) : iblk m c 7 t = (m ((c.tc : Thread nD τ).loc main_arg7)) := by blk_ext! [iblk, V, idx7 t]
theorem blk8 (t : Fin cfg0.N) : iblk m c 8 t = (m ((c.tc : Thread nD τ).loc main_arg8)) := by blk_ext! [iblk, V, idx8 t]
theorem blk9 (t : Fin cfg0.N) : iblk m c 9 t = (m ((c.tc : Thread nD τ).loc main_arg9)) := by blk_ext! [iblk, V, idx9 t]
theorem blk10 (t : Fin cfg0.N) : iblk m c 10 t = (m ((c.tc : Thread nD τ).loc main_arg10)) := by blk_ext! [iblk, V, idx10 t]
theorem blk11 (t : Fin cfg0.N) : iblk m c 11 t = (m ((c.tc : Thread nD τ).loc main_arg11)) := by blk_ext! [iblk, V, idx11 t]
theorem blk12 (t : Fin cfg0.N) : iblk m c 12 t = (m ((c.tc : Thread nD τ).loc main_arg12)) := by blk_ext! [iblk, V, idx12 t]
theorem blk13 (t : Fin cfg0.N) : iblk m c 13 t = (m ((c.tc : Thread nD τ).loc main_arg13)) := by blk_ext! [iblk, V, idx13 t]
theorem blk14 (t : Fin cfg0.N) : iblk m c 14 t = (m ((c.tc : Thread nD τ).loc main_arg14)) := by blk_ext! [iblk, V, idx14 t]
theorem blk15 (t : Fin cfg0.N) : iblk m c 15 t = (m ((c.tc : Thread nD τ).loc main_arg15)) := by blk_ext! [iblk, V, idx15 t]
theorem blk16 (t : Fin cfg0.N) : iblk m c 16 t = (m ((c.tc : Thread nD τ).loc main_arg16)) := by blk_ext! [iblk, V, idx16 t]
theorem blk17 (t : Fin cfg0.N) : iblk m c 17 t = (m ((c.tc : Thread nD τ).loc main_arg17)) := by blk_ext! [iblk, V, idx17 t]

/-! Each result array at the end of the run. -/

/-- A three-coordinate index is its coordinates. -/
theorem eta3 {a b n : ℕ} (i : (⟨3, ![a, b, n]⟩ : Shape).Idx) : i = ix3 (i 0 : Fin a) (i 1 : Fin b) (i 2 : Fin n) := by
  funext k
  fin_cases k <;> rfl

theorem out18 (x0 x1 x2 x3 x4 x5 x6 x7 x8 x9 x10 x11 x12 x13 x14 x15 x16 x17) (p : Fin 4) (q : Fin 1536) (r : Fin 3072) :
    out0_18 (F := Ideal) x0 x1 x2 x3 x4 x5 x6 x7 x8 x9 x10 x11 x12 x13 x14 x15 x16 x17 (ix3 p q r) = (ofArrays x0 x1 x2 x3 x4 x5 x6 x7 x8 x9 x10 x11 x12 x13 x14 x15 x16 x17).yArr (ix3 p q r) := by
  frame_out
  exact y_of x0 x1 x2 x3 x4 x5 x6 x7 x8 x9 x10 x11 x12 x13 x14 x15 x16 x17 p q r

theorem arr18 : (dats m 0 c).arrAt 18 cfg0.N = (args m c).yArr := by
  refine (dats m 0 c).arrAt_eq_of_after_last 18 t0_0 (by decide +kernel) _ fun j => ?_
  blk_simp
  rw [after0_18]
  simp only [blk0, blk1, blk2, blk3, blk4, blk5, blk6, blk7, blk8, blk9, blk10, blk11, blk12, blk13, blk14, blk15, blk16, blk17]
  rw [eta3 j]
  exact out18 ..

theorem out19 (x0 x1 x2 x3 x4 x5 x6 x7 x8 x9 x10 x11 x12 x13 x14 x15 x16 x17) (p : Fin 4) (q : Fin 1536) (r : Fin 3072) :
    out0_19 (F := Ideal) x0 x1 x2 x3 x4 x5 x6 x7 x8 x9 x10 x11 x12 x13 x14 x15 x16 x17 (ix3 p q r) = (ofArrays x0 x1 x2 x3 x4 x5 x6 x7 x8 x9 x10 x11 x12 x13 x14 x15 x16 x17).a1Codes (ix3 p q r) := by
  frame_out
  exact a1Codes_at x0 x1 x2 x3 x4 x5 x6 x7 x8 x9 x10 x11 x12 x13 x14 x15 x16 x17 p q r

theorem arr19 : (dats m 0 c).arrAt 19 cfg0.N = (args m c).a1Codes := by
  refine (dats m 0 c).arrAt_eq_of_after_last 19 t0_0 (by decide +kernel) _ fun j => ?_
  blk_simp
  rw [after0_19]
  simp only [blk0, blk1, blk2, blk3, blk4, blk5, blk6, blk7, blk8, blk9, blk10, blk11, blk12, blk13, blk14, blk15, blk16, blk17]
  rw [eta3 j]
  exact out19 ..

theorem out20 (x0 x1 x2 x3 x4 x5 x6 x7 x8 x9 x10 x11 x12 x13 x14 x15 x16 x17) (p : Fin 4) (q : Fin 1536) (r : Fin 1) :
    out0_20 (F := Ideal) x0 x1 x2 x3 x4 x5 x6 x7 x8 x9 x10 x11 x12 x13 x14 x15 x16 x17 (ix3 p q r) = (ofArrays x0 x1 x2 x3 x4 x5 x6 x7 x8 x9 x10 x11 x12 x13 x14 x15 x16 x17).a1Scale (ix3 p q r) := by
  frame_out
  obtain rfl : r = 0 := Subsingleton.elim _ _
  exact a1Scale_at x0 x1 x2 x3 x4 x5 x6 x7 x8 x9 x10 x11 x12 x13 x14 x15 x16 x17 p q

theorem arr20 : (dats m 0 c).arrAt 20 cfg0.N = (args m c).a1Scale := by
  refine (dats m 0 c).arrAt_eq_of_after_last 20 t0_0 (by decide +kernel) _ fun j => ?_
  blk_simp
  rw [after0_20]
  simp only [blk0, blk1, blk2, blk3, blk4, blk5, blk6, blk7, blk8, blk9, blk10, blk11, blk12, blk13, blk14, blk15, blk16, blk17]
  rw [eta3 j]
  exact out20 ..

theorem out21 (x0 x1 x2 x3 x4 x5 x6 x7 x8 x9 x10 x11 x12 x13 x14 x15 x16 x17) (p : Fin 4) (q : Fin 1536) (r : Fin 1536) :
    out0_21 (F := Ideal) x0 x1 x2 x3 x4 x5 x6 x7 x8 x9 x10 x11 x12 x13 x14 x15 x16 x17 (ix3 p q r) = (ofArrays x0 x1 x2 x3 x4 x5 x6 x7 x8 x9 x10 x11 x12 x13 x14 x15 x16 x17).oCodes (ix3 p q r) := by
  frame_out
  exact oCodes_at x0 x1 x2 x3 x4 x5 x6 x7 x8 x9 x10 x11 x12 x13 x14 x15 x16 x17 p q r

theorem arr21 : (dats m 0 c).arrAt 21 cfg0.N = (args m c).oCodes := by
  refine (dats m 0 c).arrAt_eq_of_after_last 21 t0_0 (by decide +kernel) _ fun j => ?_
  blk_simp
  rw [after0_21]
  simp only [blk0, blk1, blk2, blk3, blk4, blk5, blk6, blk7, blk8, blk9, blk10, blk11, blk12, blk13, blk14, blk15, blk16, blk17]
  rw [eta3 j]
  exact out21 ..

theorem out22 (x0 x1 x2 x3 x4 x5 x6 x7 x8 x9 x10 x11 x12 x13 x14 x15 x16 x17) (p : Fin 4) (q : Fin 1536) (r : Fin 1) :
    out0_22 (F := Ideal) x0 x1 x2 x3 x4 x5 x6 x7 x8 x9 x10 x11 x12 x13 x14 x15 x16 x17 (ix3 p q r) = (ofArrays x0 x1 x2 x3 x4 x5 x6 x7 x8 x9 x10 x11 x12 x13 x14 x15 x16 x17).oScale (ix3 p q r) := by
  frame_out
  obtain rfl : r = 0 := Subsingleton.elim _ _
  exact oScale_at x0 x1 x2 x3 x4 x5 x6 x7 x8 x9 x10 x11 x12 x13 x14 x15 x16 x17 p q

theorem arr22 : (dats m 0 c).arrAt 22 cfg0.N = (args m c).oScale := by
  refine (dats m 0 c).arrAt_eq_of_after_last 22 t0_0 (by decide +kernel) _ fun j => ?_
  blk_simp
  rw [after0_22]
  simp only [blk0, blk1, blk2, blk3, blk4, blk5, blk6, blk7, blk8, blk9, blk10, blk11, blk12, blk13, blk14, blk15, blk16, blk17]
  rw [eta3 j]
  exact out22 ..

theorem out23 (x0 x1 x2 x3 x4 x5 x6 x7 x8 x9 x10 x11 x12 x13 x14 x15 x16 x17) (p : Fin 4) (q : Fin 1536) (r : Fin 3072) :
    out0_23 (F := Ideal) x0 x1 x2 x3 x4 x5 x6 x7 x8 x9 x10 x11 x12 x13 x14 x15 x16 x17 (ix3 p q r) = (ofArrays x0 x1 x2 x3 x4 x5 x6 x7 x8 x9 x10 x11 x12 x13 x14 x15 x16 x17).a2Codes (ix3 p q r) := by
  frame_out
  exact a2Codes_at x0 x1 x2 x3 x4 x5 x6 x7 x8 x9 x10 x11 x12 x13 x14 x15 x16 x17 p q r

theorem arr23 : (dats m 0 c).arrAt 23 cfg0.N = (args m c).a2Codes := by
  refine (dats m 0 c).arrAt_eq_of_after_last 23 t0_0 (by decide +kernel) _ fun j => ?_
  blk_simp
  rw [after0_23]
  simp only [blk0, blk1, blk2, blk3, blk4, blk5, blk6, blk7, blk8, blk9, blk10, blk11, blk12, blk13, blk14, blk15, blk16, blk17]
  rw [eta3 j]
  exact out23 ..

theorem out24 (x0 x1 x2 x3 x4 x5 x6 x7 x8 x9 x10 x11 x12 x13 x14 x15 x16 x17) (p : Fin 4) (q : Fin 1536) (r : Fin 1) :
    out0_24 (F := Ideal) x0 x1 x2 x3 x4 x5 x6 x7 x8 x9 x10 x11 x12 x13 x14 x15 x16 x17 (ix3 p q r) = (ofArrays x0 x1 x2 x3 x4 x5 x6 x7 x8 x9 x10 x11 x12 x13 x14 x15 x16 x17).a2Scale (ix3 p q r) := by
  frame_out
  obtain rfl : r = 0 := Subsingleton.elim _ _
  exact a2Scale_at x0 x1 x2 x3 x4 x5 x6 x7 x8 x9 x10 x11 x12 x13 x14 x15 x16 x17 p q

theorem arr24 : (dats m 0 c).arrAt 24 cfg0.N = (args m c).a2Scale := by
  refine (dats m 0 c).arrAt_eq_of_after_last 24 t0_0 (by decide +kernel) _ fun j => ?_
  blk_simp
  rw [after0_24]
  simp only [blk0, blk1, blk2, blk3, blk4, blk5, blk6, blk7, blk8, blk9, blk10, blk11, blk12, blk13, blk14, blk15, blk16, blk17]
  rw [eta3 j]
  exact out24 ..

theorem out25 (x0 x1 x2 x3 x4 x5 x6 x7 x8 x9 x10 x11 x12 x13 x14 x15 x16 x17) (p : Fin 4) (q : Fin 1536) (r : Fin 4096) :
    out0_25 (F := Ideal) x0 x1 x2 x3 x4 x5 x6 x7 x8 x9 x10 x11 x12 x13 x14 x15 x16 x17 (ix3 p q r) = (ofArrays x0 x1 x2 x3 x4 x5 x6 x7 x8 x9 x10 x11 x12 x13 x14 x15 x16 x17).gCodes (ix3 p q r) := by
  frame_out
  exact gCodes_at x0 x1 x2 x3 x4 x5 x6 x7 x8 x9 x10 x11 x12 x13 x14 x15 x16 x17 p q r

theorem arr25 : (dats m 0 c).arrAt 25 cfg0.N = (args m c).gCodes := by
  refine (dats m 0 c).arrAt_eq_of_after_last 25 t0_0 (by decide +kernel) _ fun j => ?_
  blk_simp
  rw [after0_25]
  simp only [blk0, blk1, blk2, blk3, blk4, blk5, blk6, blk7, blk8, blk9, blk10, blk11, blk12, blk13, blk14, blk15, blk16, blk17]
  rw [eta3 j]
  exact out25 ..

theorem out26 (x0 x1 x2 x3 x4 x5 x6 x7 x8 x9 x10 x11 x12 x13 x14 x15 x16 x17) (p : Fin 4) (q : Fin 1536) (r : Fin 1) :
    out0_26 (F := Ideal) x0 x1 x2 x3 x4 x5 x6 x7 x8 x9 x10 x11 x12 x13 x14 x15 x16 x17 (ix3 p q r) = (ofArrays x0 x1 x2 x3 x4 x5 x6 x7 x8 x9 x10 x11 x12 x13 x14 x15 x16 x17).gScale (ix3 p q r) := by
  frame_out
  obtain rfl : r = 0 := Subsingleton.elim _ _
  exact gScale_at x0 x1 x2 x3 x4 x5 x6 x7 x8 x9 x10 x11 x12 x13 x14 x15 x16 x17 p q

theorem arr26 : (dats m 0 c).arrAt 26 cfg0.N = (args m c).gScale := by
  refine (dats m 0 c).arrAt_eq_of_after_last 26 t0_0 (by decide +kernel) _ fun j => ?_
  blk_simp
  rw [after0_26]
  simp only [blk0, blk1, blk2, blk3, blk4, blk5, blk6, blk7, blk8, blk9, blk10, blk11, blk12, blk13, blk14, blk15, blk16, blk17]
  rw [eta3 j]
  exact out26 ..

end Cert.Vit.R
-- ==== Proof.RefRun.lean ====
/- The reference's run: every execution ends with the nine results in place and the arguments as launched. -/
module

public import proofs.«01_k».proof.Proof.RefFinal
public import proofs.«01_k».proof.Proof.Gen.ReferenceIdeal.Frame

@[expose] public section

set_option maxRecDepth 16384

noncomputable section

namespace Cert.Vit.R

open Idealize.ShloMosaic Idealize.SL.Sem Cert.ReferenceIdeal Cert.ReferenceIdeal.Gen

variable (m : (ℓ : Loc nD τ sig) → Buf (Elt Ideal) ℓ) (ρ : Dev nD → PrngReg)

/-- Every execution ends with the nine results in place and the arguments as launched. -/
theorem run : θ_run defs (onTc (τ := τ) (main (F := Ideal))) ⟨m, fun _ => 0, ρ⟩ (fun r => ∀ c : Dev nD,
      r.2.mem ((c.tc : Thread nD τ).loc main_v0_0) = (args m c).yArr
      ∧ r.2.mem ((c.tc : Thread nD τ).loc main_v0_1) = (args m c).a1Codes
      ∧ r.2.mem ((c.tc : Thread nD τ).loc main_v0_2) = (args m c).a1Scale
      ∧ r.2.mem ((c.tc : Thread nD τ).loc main_v0_3) = (args m c).oCodes
      ∧ r.2.mem ((c.tc : Thread nD τ).loc main_v0_4) = (args m c).oScale
      ∧ r.2.mem ((c.tc : Thread nD τ).loc main_v0_5) = (args m c).a2Codes
      ∧ r.2.mem ((c.tc : Thread nD τ).loc main_v0_6) = (args m c).a2Scale
      ∧ r.2.mem ((c.tc : Thread nD τ).loc main_v0_7) = (args m c).gCodes
      ∧ r.2.mem ((c.tc : Thread nD τ).loc main_v0_8) = (args m c).gScale
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨((h.1 c).1 18).trans (arr18 m c),
     ((h.1 c).1 19).trans (arr19 m c),
     ((h.1 c).1 20).trans (arr20 m c),
     ((h.1 c).1 21).trans (arr21 m c),
     ((h.1 c).1 22).trans (arr22 m c),
     ((h.1 c).1 23).trans (arr23 m c),
     ((h.1 c).1 24).trans (arr24 m c),
     ((h.1 c).1 25).trans (arr25 m c),
     ((h.1 c).1 26).trans (arr26 m c), h.2 c⟩) (θ_run_and (run_main m ρ) (unchanged m ρ))

end Cert.Vit.R
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- Both programs find the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.Vit.R.args m' c = Cert.Vit.K.args m c := by
  obtain ⟨h0, h1, h2, h3, h4, h5, h6, h7, h8, h9, h10, h11, h12, h13, h14, h15, h16, h17⟩ := h
  unfold Cert.Vit.R.args Cert.Vit.K.args
  rw [h0, h1, h2, h3, h4, h5, h6, h7, h8, h9, h10, h11, h12, h13, h14, h15, h16, h17]

/-- The kernel and the reference end with the same nine results. -/
theorem values : algebraic_KernelIdeal_ReferenceIdeal (hKernelIdeal := Cert.KernelIdeal.Gen.facts)
    (hReferenceIdeal := Cert.ReferenceIdeal.Gen.facts) := by
  intro m g m' g' _ h
  refine ⟨fun c => (Cert.Vit.K.args m c).yArr, fun c => (Cert.Vit.K.args m c).a1Codes, fun c => (Cert.Vit.K.args m c).a1Scale, fun c => (Cert.Vit.K.args m c).oCodes, fun c => (Cert.Vit.K.args m c).oScale, fun c => (Cert.Vit.K.args m c).a2Codes, fun c => (Cert.Vit.K.args m c).a2Scale, fun c => (Cert.Vit.K.args m c).gCodes, fun c => (Cert.Vit.K.args m c).gScale,
    Cert.Vit.K.run m g, ?_⟩
  refine (θ_run _ _ _).mono (fun r k c => ?_) (Cert.Vit.R.run m' g')
  have e := k c
  rw [args_eq m m' c (h c)] at e
  exact e

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial, values⟩

end Cert.Proof

end
